-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x2048x1024 .bf16) (main_arg1 : FVec F S1024x1024 .bf16) (main_arg2 : FVec F S1x2048x8x128 .bf16) (main_arg3 : FVec F S1x2048x8x128 .bf16) (main_arg4 : FVec F S1024x1024 .bf16) : IVec S1x2048x1024 1 × IVec S1024x1024 1 × IVec S1x2048x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_inputs_ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x2048x1024 .bf16) (main_arg1 : FVec F S1024x1024 .bf16) (main_arg2 : FVec F S1x8192x8x128 .bf16) (main_arg3 : FVec F S1x8192x8x128 .bf16) (main_arg4 : FVec F S1024x1024 .bf16) : IVec S1x2048x1024 1 × IVec S1024x1024 1 × IVec S1x8192x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x8192x8x128 .bf16 := Host.absf main_arg2
  let main_cst_1 : FVec F S_ .bf16 := constant S_ .bf16 0x7F80#16
  let main_v7 : FVec F S1x8192x8x128 .bf16 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2048x8x128 : Shape := ⟨3, ![2048, 8, 128]⟩
abbrev S8x2048x128 : Shape := ⟨3, ![8, 2048, 128]⟩
abbrev S8x256x1024 : Shape := ⟨3, ![8, 256, 1024]⟩
abbrev S2x8 : Shape := ⟨2, ![2, 8]⟩
abbrev S8 : Shape := ⟨1, ![8]⟩
abbrev S_ : Shape := ⟨0, ![]⟩
abbrev S256x256 : Shape := ⟨2, ![256, 256]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x256x1024 : Shape := ⟨3, ![1, 256, 1024]⟩
abbrev S1x1 : Shape := ⟨2, ![1, 1]⟩
abbrev S1 : Shape := ⟨1, ![1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 11
  | .vmem => 8
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S2048x1024, .bf16⟩
  | .hbm, ⟨6, _⟩ => ⟨S2048x8x128, .bf16⟩
  | .hbm, ⟨7, _⟩ => ⟨S8x2048x128, .bf16⟩
  | .hbm, ⟨8, _⟩ => ⟨S2048x8x128, .bf16⟩
  | .hbm, ⟨9, _⟩ => ⟨S8x2048x128, .bf16⟩
  | .hbm, ⟨10, _⟩ => ⟨S1x2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S1x2048x1024, .bf16⟩
  | .local _ .vmem, ⟨6, _⟩ => ⟨S2048x1024, .bf16⟩
  | .local _ .vmem, ⟨7, _⟩ => ⟨S8x256x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v4 : BitVec 1 := Scalar.cmpi .eq c2_i32 c0_i32
  let c1_i32_0 : BitVec 32 := 1#32
  let v5 : BitVec 32 := Scalar.select v4 c1_i32_0 c2_i32
  let v6 : BitVec 32 := Scalar.remsi v2 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_4 : BitVec 32 := 0#32
  let v14 : BitVec 1 := Scalar.cmpi .eq v13 c0_i32_4
  let c1_i32_5 : BitVec 32 := 1#32
  let c0_i32_6 : BitVec 32 := 0#32
  let v15 : BitVec 32 := Scalar.select v14 c1_i32_5 c0_i32_6
  let c1_i32_16 : BitVec 32 := 1#32
  let v28 : BitVec 32 := Scalar.muli v15 c1_i32_16
  let v29 : BitVec 32 := Scalar.addi c0_i32_17 v28
  v29.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi v2 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c0_i32_13 : BitVec 32 := 0#32
  let v26 : BitVec 1 := Scalar.cmpi .eq v25 c0_i32_13
  let c3_i32 : BitVec 32 := 3#32
  let c2_i32_14 : BitVec 32 := 2#32
  let v27 : BitVec 32 := Scalar.select v26 c3_i32 c2_i32_14
  let c1_i32_19 : BitVec 32 := 1#32
  let v30 : BitVec 32 := Scalar.muli v27 c1_i32_19
  let v31 : BitVec 32 := Scalar.addi c0_i32_20 v30
  v31.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_35 : BitVec 32 := 0#32
  let v83 : BitVec 1 := Scalar.cmpi .eq v2 c0_i32_35
  let v84 : BitVec 32 := Scalar.extui v83
  let c0_i32_36 : BitVec 32 := 0#32
  let v85 : BitVec 1 := Scalar.cmpi .ne v84 c0_i32_36
  v85

def k0_dev3 : Nat :=
  let c0_i32_165 : BitVec 32 := 0#32
  let c1_i32_163 : BitVec 32 := 1#32
  let c1_i32_164 : BitVec 32 := 1#32
  let v274 : BitVec 32 := Scalar.muli c1_i32_163 c1_i32_164
  let v275 : BitVec 32 := Scalar.addi c0_i32_165 v274
  v275.toNat
def k0_dev4 : Nat :=
  let c0_i32_177 : BitVec 32 := 0#32
  let c3_i32_175 : BitVec 32 := 3#32
  let c1_i32_176 : BitVec 32 := 1#32
  let v284 : BitVec 32 := Scalar.muli c3_i32_175 c1_i32_176
  let v285 : BitVec 32 := Scalar.addi c0_i32_177 v284
  v285.toNat
def k0_dev5 : Nat :=
  let c0_i32_407 : BitVec 32 := 0#32
  let c1_i32_405 : BitVec 32 := 1#32
  let c1_i32_406 : BitVec 32 := 1#32
  let v594 : BitVec 32 := Scalar.muli c1_i32_405 c1_i32_406
  let v595 : BitVec 32 := Scalar.addi c0_i32_407 v594
  v595.toNat
def k0_dev6 : Nat :=
  let c0_i32_419 : BitVec 32 := 0#32
  let c3_i32_417 : BitVec 32 := 3#32
  let c1_i32_418 : BitVec 32 := 1#32
  let v604 : BitVec 32 := Scalar.muli c3_i32_417 c1_i32_418
  let v605 : BitVec 32 := Scalar.addi c0_i32_419 v604
  v605.toNat
def k0_dev7 : Nat :=
  let c0_i32_649 : BitVec 32 := 0#32
  let c1_i32_647 : BitVec 32 := 1#32
  let c1_i32_648 : BitVec 32 := 1#32
  let v914 : BitVec 32 := Scalar.muli c1_i32_647 c1_i32_648
  let v915 : BitVec 32 := Scalar.addi c0_i32_649 v914
  v915.toNat
def k0_dev8 : Nat :=
  let c0_i32_661 : BitVec 32 := 0#32
  let c3_i32_659 : BitVec 32 := 3#32
  let c1_i32_660 : BitVec 32 := 1#32
  let v924 : BitVec 32 := Scalar.muli c3_i32_659 c1_i32_660
  let v925 : BitVec 32 := Scalar.addi c0_i32_661 v924
  v925.toNat
def k0_dev9 : Nat :=
  let c0_i32_891 : BitVec 32 := 0#32
  let c1_i32_889 : BitVec 32 := 1#32
  let c1_i32_890 : BitVec 32 := 1#32
  let v1234 : BitVec 32 := Scalar.muli c1_i32_889 c1_i32_890
  let v1235 : BitVec 32 := Scalar.addi c0_i32_891 v1234
  v1235.toNat
def k0_dev10 : Nat :=
  let c0_i32_903 : BitVec 32 := 0#32
  let c3_i32_901 : BitVec 32 := 3#32
  let c1_i32_902 : BitVec 32 := 1#32
  let v1244 : BitVec 32 := Scalar.muli c3_i32_901 c1_i32_902
  let v1245 : BitVec 32 := Scalar.addi c0_i32_903 v1244
  v1245.toNat
def k0_dev11 : Nat :=
  let c0_i32_1132 : BitVec 32 := 0#32
  let c1_i32_1130 : BitVec 32 := 1#32
  let c1_i32_1131 : BitVec 32 := 1#32
  let v1554 : BitVec 32 := Scalar.muli c1_i32_1130 c1_i32_1131
  let v1555 : BitVec 32 := Scalar.addi c0_i32_1132 v1554
  v1555.toNat
def k0_dev12 : Nat :=
  let c0_i32_1144 : BitVec 32 := 0#32
  let c3_i32_1142 : BitVec 32 := 3#32
  let c1_i32_1143 : BitVec 32 := 1#32
  let v1564 : BitVec 32 := Scalar.muli c3_i32_1142 c1_i32_1143
  let v1565 : BitVec 32 := Scalar.addi c0_i32_1144 v1564
  v1565.toNat
def k0_dev13 : Nat :=
  let c0_i32_1372 : BitVec 32 := 0#32
  let c1_i32_1370 : BitVec 32 := 1#32
  let c1_i32_1371 : BitVec 32 := 1#32
  let v1874 : BitVec 32 := Scalar.muli c1_i32_1370 c1_i32_1371
  let v1875 : BitVec 32 := Scalar.addi c0_i32_1372 v1874
  v1875.toNat
def k0_dev14 : Nat :=
  let c0_i32_1384 : BitVec 32 := 0#32
  let c3_i32_1382 : BitVec 32 := 3#32
  let c1_i32_1383 : BitVec 32 := 1#32
  let v1884 : BitVec 32 := Scalar.muli c3_i32_1382 c1_i32_1383
  let v1885 : BitVec 32 := Scalar.addi c0_i32_1384 v1884
  v1885.toNat
def k0_dev15 : Nat :=
  let c0_i32_1612 : BitVec 32 := 0#32
  let c1_i32_1610 : BitVec 32 := 1#32
  let c1_i32_1611 : BitVec 32 := 1#32
  let v2194 : BitVec 32 := Scalar.muli c1_i32_1610 c1_i32_1611
  let v2195 : BitVec 32 := Scalar.addi c0_i32_1612 v2194
  v2195.toNat
def k0_dev16 : Nat :=
  let c0_i32_1624 : BitVec 32 := 0#32
  let c3_i32_1622 : BitVec 32 := 3#32
  let c1_i32_1623 : BitVec 32 := 1#32
  let v2204 : BitVec 32 := Scalar.muli c3_i32_1622 c1_i32_1623
  let v2205 : BitVec 32 := Scalar.addi c0_i32_1624 v2204
  v2205.toNat
def k0_dev17 : Nat :=
  let c0_i32_1852 : BitVec 32 := 0#32
  let c1_i32_1850 : BitVec 32 := 1#32
  let c1_i32_1851 : BitVec 32 := 1#32
  let v2514 : BitVec 32 := Scalar.muli c1_i32_1850 c1_i32_1851
  let v2515 : BitVec 32 := Scalar.addi c0_i32_1852 v2514
  v2515.toNat
def k0_dev18 : Nat :=
  let c0_i32_1864 : BitVec 32 := 0#32
  let c3_i32_1862 : BitVec 32 := 3#32
  let c1_i32_1863 : BitVec 32 := 1#32
  let v2524 : BitVec 32 := Scalar.muli c3_i32_1862 c1_i32_1863
  let v2525 : BitVec 32 := Scalar.addi c0_i32_1864 v2524
  v2525.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_37 : BitVec 32 := 0#32
  let v86 : BitVec 1 := Scalar.cmpi .ne v2 c0_i32_37
  let v87 : BitVec 32 := Scalar.extui v86
  let c0_i32_38 : BitVec 32 := 0#32
  let v88 : BitVec 1 := Scalar.cmpi .ne v87 c0_i32_38
  v88

def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v97 : BitVec 1 := Scalar.cmpi .eq v2 c1_i32_51
  let v98 : BitVec 32 := Scalar.extui v97
  let c0_i32_52 : BitVec 32 := 0#32
  let v99 : BitVec 1 := Scalar.cmpi .ne v98 c0_i32_52
  v99

def k0_dev19 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_70 : BitVec 32 := 3#32
  let v113 : BitVec 1 := Scalar.cmpi .eq v2 c3_i32_70
  let v114 : BitVec 32 := Scalar.extui v113
  let c0_i32_71 : BitVec 32 := 0#32
  let v115 : BitVec 1 := Scalar.cmpi .ne v114 c0_i32_71
  v115

def k0_dev20 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v129 : BitVec 1 := Scalar.cmpi .eq v2 c1_i32_88
  let v130 : BitVec 32 := Scalar.extui v129
  let c0_i32_89 : BitVec 32 := 0#32
  let v131 : BitVec 1 := Scalar.cmpi .ne v130 c0_i32_89
  v131

def k0_dev21 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v145 : BitVec 1 := Scalar.cmpi .eq v2 c3_i32_106
  let v146 : BitVec 32 := Scalar.extui v145
  let c0_i32_107 : BitVec 32 := 0#32
  let v147 : BitVec 1 := Scalar.cmpi .ne v146 c0_i32_107
  v147

def k0_dev22 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v161 : BitVec 1 := Scalar.cmpi .eq v2 c1_i32_124
  let v162 : BitVec 32 := Scalar.extui v161
  let c0_i32_125 : BitVec 32 := 0#32
  let v163 : BitVec 1 := Scalar.cmpi .ne v162 c0_i32_125
  v163

def k0_dev23 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_141 : BitVec 32 := 3#32
  let v177 : BitVec 1 := Scalar.cmpi .eq v2 c3_i32_141
  let v178 : BitVec 32 := Scalar.extui v177
  let c0_i32_142 : BitVec 32 := 0#32
  let v179 : BitVec 1 := Scalar.cmpi .ne v178 c0_i32_142
  v179

def k0_dev24 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_158 : BitVec 32 := 1#32
  let v193 : BitVec 1 := Scalar.cmpi .eq v2 c1_i32_158
  let v194 : BitVec 32 := Scalar.extui v193
  let c0_i32_159 : BitVec 32 := 0#32
  let v195 : BitVec 1 := Scalar.cmpi .ne v194 c0_i32_159
  v195

def k0_dev25 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_175 : BitVec 32 := 3#32
  let v209 : BitVec 1 := Scalar.cmpi .eq v2 c3_i32_175
  let v210 : BitVec 32 := Scalar.extui v209
  let c0_i32_176 : BitVec 32 := 0#32
  let v211 : BitVec 1 := Scalar.cmpi .ne v210 c0_i32_176
  v211

def k0_dev26 : Nat :=
  let c0_i32_192 : BitVec 32 := 0#32
  let c2_i32_190 : BitVec 32 := 2#32
  let c1_i32_191 : BitVec 32 := 1#32
  let v223 : BitVec 32 := Scalar.muli c2_i32_190 c1_i32_191
  let v224 : BitVec 32 := Scalar.addi c0_i32_192 v223
  v224.toNat
def k0_dev27 (d0 : Dev nD) : Nat :=
  let c0_i32_59_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39_r0 : BitVec 32 := 2#32
  let c0_i32_40_r0 : BitVec 32 := 0#32
  let v90_r0 : BitVec 1 := Scalar.cmpi .eq c2_i32_39_r0 c0_i32_40_r0
  let c1_i32_41_r0 : BitVec 32 := 1#32
  let v91_r0 : BitVec 32 := Scalar.select v90_r0 c1_i32_41_r0 c2_i32_39_r0
  let v92_r0 : BitVec 32 := Scalar.remsi v2 v91_r0
  let c0_i32_43_r0 : BitVec 32 := 0#32
  let v94_r0 : BitVec 1 := Scalar.cmpi .slt v92_r0 c0_i32_43_r0
  let c0_i32_44_r0 : BitVec 32 := 0#32
  let v95_r0 : BitVec 1 := Scalar.cmpi .slt v91_r0 c0_i32_44_r0
  let v96_r0 : BitVec 1 := Scalar.xori v94_r0 v95_r0
  let c0_i32_42_r0 : BitVec 32 := 0#32
  let v93_r0 : BitVec 1 := Scalar.cmpi .ne v92_r0 c0_i32_42_r0
  let v97_r0 : BitVec 1 := Scalar.andi v96_r0 v93_r0
  let v98_r0 : BitVec 32 := Scalar.addi v92_r0 v91_r0
  let v99_r0 : BitVec 32 := Scalar.select v97_r0 v98_r0 v92_r0
  let c0_i32_45_r0 : BitVec 32 := 0#32
  let v100_r0 : BitVec 1 := Scalar.cmpi .eq v99_r0 c0_i32_45_r0
  let c1_i32_46_r0 : BitVec 32 := 1#32
  let c0_i32_47_r0 : BitVec 32 := 0#32
  let v101_r0 : BitVec 32 := Scalar.select v100_r0 c1_i32_46_r0 c0_i32_47_r0
  let c1_i32_58_r0 : BitVec 32 := 1#32
  let v114_r0 : BitVec 32 := Scalar.muli v101_r0 c1_i32_58_r0
  let v115_r0 : BitVec 32 := Scalar.addi c0_i32_59_r0 v114_r0
  v115_r0.toNat
def k0_dev28 (d0 : Dev nD) : Nat :=
  let c0_i32_62_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48_r0 : BitVec 32 := 2#32
  let c0_i32_49_r0 : BitVec 32 := 0#32
  let v102_r0 : BitVec 1 := Scalar.cmpi .eq c2_i32_48_r0 c0_i32_49_r0
  let c1_i32_50_r0 : BitVec 32 := 1#32
  let v103_r0 : BitVec 32 := Scalar.select v102_r0 c1_i32_50_r0 c2_i32_48_r0
  let v104_r0 : BitVec 32 := Scalar.remsi v2 v103_r0
  let c0_i32_52_r0 : BitVec 32 := 0#32
  let v106_r0 : BitVec 1 := Scalar.cmpi .slt v104_r0 c0_i32_52_r0
  let c0_i32_53_r0 : BitVec 32 := 0#32
  let v107_r0 : BitVec 1 := Scalar.cmpi .slt v103_r0 c0_i32_53_r0
  let v108_r0 : BitVec 1 := Scalar.xori v106_r0 v107_r0
  let c0_i32_51_r0 : BitVec 32 := 0#32
  let v105_r0 : BitVec 1 := Scalar.cmpi .ne v104_r0 c0_i32_51_r0
  let v109_r0 : BitVec 1 := Scalar.andi v108_r0 v105_r0
  let v110_r0 : BitVec 32 := Scalar.addi v104_r0 v103_r0
  let v111_r0 : BitVec 32 := Scalar.select v109_r0 v110_r0 v104_r0
  let c0_i32_54_r0 : BitVec 32 := 0#32
  let v112_r0 : BitVec 1 := Scalar.cmpi .eq v111_r0 c0_i32_54_r0
  let c3_i32_55_r0 : BitVec 32 := 3#32
  let c2_i32_56_r0 : BitVec 32 := 2#32
  let v113_r0 : BitVec 32 := Scalar.select v112_r0 c3_i32_55_r0 c2_i32_56_r0
  let c1_i32_61_r0 : BitVec 32 := 1#32
  let v116_r0 : BitVec 32 := Scalar.muli v113_r0 c1_i32_61_r0
  let v117_r0 : BitVec 32 := Scalar.addi c0_i32_62_r0 v116_r0
  v117_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1x8x2048x8192 : Shape := ⟨4, ![1, 8, 2048, 8192]⟩
abbrev S1x1x2048x8192 : Shape := ⟨4, ![1, 1, 2048, 8192]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 95
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x8192x8x128, .bf16⟩
  | .hbm, ⟨3, _⟩ => ⟨S1x8192x8x128, .bf16⟩
  | .hbm, ⟨4, _⟩ => ⟨S1024x1024, .bf16⟩
  | .hbm, ⟨5, _⟩ => ⟨S1x2048x1024, .f32⟩
  | .hbm, ⟨6, _⟩ => ⟨S1x2048x1024, .bf16⟩
  | .hbm, ⟨7, _⟩ => ⟨S1x2048x8x128, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S1x8192, .i32⟩
  | .hbm, ⟨48, _⟩ => ⟨S2048x8192, .i32⟩
  | .hbm, ⟨49, _⟩ => ⟨S2048x8192, .i32⟩
  | .hbm, ⟨50, _⟩ => ⟨S2048x8192, .i1⟩
  | .hbm, ⟨51, _⟩ => ⟨S1x8x2048x8192, .f32⟩
  | .hbm, ⟨52, _⟩ => ⟨S1x8x2048x8192, .bf16⟩
  | .hbm, ⟨53, _⟩ => ⟨S1x8x2048x8192, .f32⟩
  | .hbm, ⟨54, _⟩ => ⟨S_, .f32⟩
  | .hbm, ⟨55, _⟩ => ⟨S1x8x2048x8192, .f32⟩
  | .hbm, ⟨56, _⟩ => ⟨S1x8x2048x8192, .f32⟩
  | .hbm, ⟨57, _⟩ => ⟨S1x1x2048x8192, .i1⟩
  | .hbm, ⟨58, _⟩ => ⟨S_, .f32⟩
  | .hbm, ⟨59, _⟩ => ⟨S_, .f32⟩
  | .hbm, ⟨60, _⟩ => ⟨S1x8x2048x8192, .i1⟩
  | .hbm, ⟨61, _⟩ => ⟨S1x8x2048x8192, .f32⟩
  | .hbm, ⟨62, _⟩ => ⟨S1x8x2048x8192, .f32⟩
  | .hbm, ⟨63, _⟩ => ⟨S_, .f32⟩
  | .hbm, ⟨64, _⟩ => ⟨S1x8x2048, .f32⟩
  | .hbm, ⟨65, _⟩ => ⟨S1x8x2048x1, .f32⟩
  | .hbm, ⟨66, _⟩ => ⟨S1x8x2048x8192, .f32⟩
  | .hbm, ⟨67, _⟩ => ⟨S1x8x2048x8192, .f32⟩
  | .hbm, ⟨68, _⟩ => ⟨S1x8x2048x8192, .f32⟩
  | .hbm, ⟨69, _⟩ => ⟨S_, .i1⟩
  | .hbm, ⟨70, _⟩ => ⟨S2048, .i1⟩
  | .hbm, ⟨71, _⟩ => ⟨S1x1x2048x1, .i1⟩
  | .hbm, ⟨72, _⟩ => ⟨S_, .f32⟩
  | .hbm, ⟨73, _⟩ => ⟨S1x8x2048, .f32⟩
  | .hbm, ⟨74, _⟩ => ⟨S1x8x2048x1, .f32⟩
  | .hbm, ⟨75, _⟩ => ⟨S_, .f32⟩
  | .hbm, ⟨76, _⟩ => ⟨S_, .f32⟩
  | .hbm, ⟨77, _⟩ => ⟨S1x8x2048x1, .i1⟩
  | .hbm, ⟨78, _⟩ => ⟨S1x8x2048x1, .f32⟩
  | .hbm, ⟨79, _⟩ => ⟨S1x8x2048x1, .f32⟩
  | .hbm, ⟨80, _⟩ => ⟨S1x8x2048x8192, .f32⟩
  | .hbm, ⟨81, _⟩ => ⟨S1x8x2048x8192, .f32⟩
  | .hbm, ⟨82, _⟩ => ⟨S1x1x2048x1, .i1⟩
  | .hbm, ⟨83, _⟩ => ⟨S_, .f32⟩
  | .hbm, ⟨84, _⟩ => ⟨S_, .f32⟩
  | .hbm, ⟨85, _⟩ => ⟨S1x8x2048x8192, .i1⟩
  | .hbm, ⟨86, _⟩ => ⟨S1x8x2048x8192, .f32⟩
  | .hbm, ⟨87, _⟩ => ⟨S1x8x2048x8192, .f32⟩
  | .hbm, ⟨88, _⟩ => ⟨S1x8192x8x128, .f32⟩
  | .hbm, ⟨89, _⟩ => ⟨S1x8x128x2048, .f32⟩
  | .hbm, ⟨90, _⟩ => ⟨S1x2048x8x128, .f32⟩
  | .hbm, ⟨91, _⟩ => ⟨S1x2048x1024, .f32⟩
  | .hbm, ⟨92, _⟩ => ⟨S1024x1024, .f32⟩
  | .hbm, ⟨93, _⟩ => ⟨S1x2048x1024, .f32⟩
  | .hbm, ⟨94, _⟩ => ⟨S1x2048x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Blocks.lean ====
/- The kernel's program written once per device, block after block and head after head. -/
module

public import proofs.«01_k».proof.Proof.Gen.KernelIdeal.Skeleton
public import Idealize.ShloMosaic.Lib.Pipeline.Regions

@[expose] public section

noncomputable section

namespace Cert.KernelIdeal.Blocks

open Idealize.ShloMosaic Idealize.SL.Sem
open Cert.KernelIdeal Cert.KernelIdeal.Gen

variable {F : FTy → Type} [FloatOps F]

/-! ## Shapes of the keys before a block -/

/-- `n` keys of one head, under the head's unit axis. -/
abbrev K3 (n : ℕ) : Shape := ⟨3, ![1, n, 128]⟩
/-- `n` keys of one head. -/
abbrev K2 (n : ℕ) : Shape := ⟨2, ![n, 128]⟩
/-- The scores of 256 queries against `n` keys. -/
abbrev E2 (n : ℕ) : Shape := ⟨2, ![256, n]⟩

/-- A head's keys may drop their unit axis. -/
theorem casts_K (n : ℕ) : (K3 n).ShapeCasts (K2 n) := by
  show (K2 n).numel = (K3 n).numel
  simp [Shape.numel, Fin.prod_univ_succ]

/-- Summing a block of weights along the keys leaves one number per row. -/
theorem reduces_E (n : ℕ) : (E2 n).Reduces [1] S256 :=
  ⟨rfl, by decide, by intro b; match b with | ⟨0, _⟩ => rfl⟩

/-- At least one key leaves at least one element. -/
theorem pos_K3 {n : ℕ} (hn : 0 < n) : 0 < (K3 n).numel := by
  simp [Shape.numel, Fin.prod_univ_succ, hn]

/-- Queries times the transpose of `n` keys. -/
def dotQK (n : ℕ) : DotDims S256x128 (K2 n) (E2 n) where
  lhsContracting := [1]
  rhsContracting := [1]
  lhsNonContracting := [0]
  rhsNonContracting := [0]
  lhsBatch := []
  rhsBatch := []
  wf := ⟨rfl, by simp, rfl, by simp, by simp, by simp, by simpa [List.finRange] using List.Perm.swap 0 1 [],
    by simpa [List.finRange] using List.Perm.swap 0 1 [], rfl, Nat.two_pos,
    fun b => by match b with | ⟨0, _⟩ => rfl | ⟨1, _⟩ => rfl⟩

/-- Weights of `n` keys times the `n` values. -/
def dotEV (n : ℕ) : DotDims (E2 n) (K2 n) S256x128 := DotDims.plain 256 n 128

/-! ## What is computed between the memory operations -/

/-- The scores' scaling constant on a tile. -/
abbrev scale (n : ℕ) : FVec F (E2 n) .f32 := broadcast (E2 n) (Scalar.ofBits .f32 0x3DB504F3#32)
/-- The exponentials of the scaled scores of one head's queries against `n` keys. -/
def expScores (n : ℕ) (q : Vec F S256x128 .bf16) (k : Vec F (K3 n) .bf16) : FVec F (E2 n) .f32 :=
  exp (mulf (matmul (dotQK n) none q (shapeCast (K2 n) k (casts_K n) : FVec F (K2 n) .bf16) (constant (E2 n) .f32 0x00000000#32)) (scale n))
/-- The same on the diagonal tile, zero off the mask. -/
def diagScores (mask : IVec S256x256 1) (q : Vec F S256x128 .bf16) (k : Vec F (K3 256) .bf16) : FVec F S256x256 .f32 :=
  select mask (expScores 256 q k) (broadcast S256x256 (Scalar.ofBits .f32 0x00000000#32))
/-- A tile's row sums, as a column. -/
def rowSum (n : ℕ) (e : FVec F (E2 n) .f32) : FVec F S256x1 .f32 :=
  shapeCast S256x1 (multiReduction .add [1] S256 e 0x00000000#32 (reduces_E n) (.inl rfl) rfl) shapeCasts_S256_S256x1
/-- A tile of weights times the values. -/
def weigh (n : ℕ) (e : FVec F (E2 n) .f32) (v : Vec F (K3 n) .bf16) : FVec F S256x128 .f32 :=
  matmul (dotEV n) none (truncf .bf16 e bitsLt_bf16_f32) (shapeCast (K2 n) v (casts_K n) : FVec F (K2 n) .bf16) (constant S256x128 .f32 0x00000000#32)
/-- The quotient of the weighted values by the weights' sum, rounded. -/
def quot (acc : FVec F S256x128 .f32) (den : FVec F S256x1 .f32) : FVec F S256x128 .bf16 :=
  shapeCast S256x128 (truncf .bf16 (divf acc (broadcastTo S256x128 den broadcasts_S256x1_S256x128)) bitsLt_bf16_f32) shapeCasts_S256x128_S256x128
/-- A head's result in the first block: the diagonal tile alone. -/
def headFirst (mask : IVec S256x256 1) (q : Vec F S256x128 .bf16) (kd vd : Vec F (K3 256) .bf16) : FVec F S256x128 .bf16 :=
  quot (weigh 256 (diagScores mask q kd) vd) (rowSum 256 (diagScores mask q kd))
/-- A head's result in a later block: the diagonal tile and the `n` keys before it. -/
def headLater (n : ℕ) (mask : IVec S256x256 1) (q : Vec F S256x128 .bf16) (kd vd : Vec F (K3 256) .bf16)
    (km vm : Vec F (K3 n) .bf16) : FVec F S256x128 .bf16 :=
  quot (addf (weigh 256 (diagScores mask q kd) vd) (weigh n (expScores n q km) vm))
    (addf (rowSum 256 (diagScores mask q kd)) (rowSum n (expScores n q km)))
/-- A block of rows times a square matrix, rounded. -/
def proj (x : Vec F S256x1024 .bf16) (w : Vec F S1024x1024 .bf16) : FVec F S256x1024 .bf16 :=
  truncf .bf16 (matmul dot_S256x1024_S1024x1024_S256x1024_1_0_0_1_n_n none x
    (shapeCast S1024x1024 w shapeCasts_S1024x1024_S1024x1024 : FVec F S1024x1024 .bf16) (constant S256x1024 .f32 0x00000000#32)) bitsLt_bf16_f32
/-- The queries of a block. -/
def payQ (x : Vec F S256x1024 .bf16) (w : Vec F S1024x1024 .bf16) : FVec F S256x1024 .bf16 :=
  shapeCast S256x1024 (proj (shapeCast S256x1024 x shapeCasts_S256x1024_S256x1024) w) shapeCasts_S256x1024_S256x1024
/-- A block under a unit axis. -/
def payO (o : FVec F S256x1024 .bf16) : FVec F S1x256x1024 .bf16 := shapeCast S1x256x1024 o shapeCasts_S256x1024_S1x256x1024
/-- A landed block, through the two casts the receiver stores it with. -/
def payR (o : Vec F S1x256x1024 .bf16) : FVec F S1x256x1024 .bf16 :=
  payO (shapeCast S256x1024 o shapeCasts_S1x256x1024_S256x1024)
/-- The diagonal tile's mask: the key's group of 64 is not after the query's. -/
def mask : IVec S256x256 1 := k0_pay264 k0_pay260 k0_pay261 k0_pay262 k0_pay263

/-! ## The blocks of the buffers -/

/-- The rows of block `b` lie in the input. -/
theorem inb_X (b : ℕ) (hb : b < 8) : ∀ a, (![256 * b, 0] : Fin 2 → ℕ) a + S256x1024.size a ≤ S2048x1024.size a := by
  intro a; match a with
  | ⟨0, _⟩ => show 256 * b + 256 ≤ 2048; omega
  | ⟨1, _⟩ => show 0 + 1024 ≤ 1024; omega
/-- The lanes of head `h` in the rows of block `b` lie in the context. -/
theorem inb_C (b h : ℕ) (hb : b < 8) (hh : h < 8) : ∀ a, (![256 * b, 128 * h] : Fin 2 → ℕ) a + S256x128.size a ≤ S2048x1024.size a := by
  intro a; match a with
  | ⟨0, _⟩ => show 256 * b + 256 ≤ 2048; omega
  | ⟨1, _⟩ => show 128 * h + 128 ≤ 1024; omega
/-- The keys of block `b`, head `h`, lie in the keys. -/
theorem inb_D (b h : ℕ) (hb : b < 8) (hh : h < 8) : ∀ a, (![h, 256 * b, 0] : Fin 3 → ℕ) a + S1x256x128.size a ≤ S8x2048x128.size a := by
  intro a; match a with
  | ⟨0, _⟩ => show h + 1 ≤ 8; omega
  | ⟨1, _⟩ => show 256 * b + 256 ≤ 2048; omega
  | ⟨2, _⟩ => show 0 + 128 ≤ 128; omega
/-- The keys before block `b`, head `h`, lie in the keys. -/
theorem inb_M (b h : ℕ) (hb : b < 8) (hh : h < 8) : ∀ a, (![h, 0, 0] : Fin 3 → ℕ) a + (K3 (256 * b)).size a ≤ S8x2048x128.size a := by
  intro a; match a with
  | ⟨0, _⟩ => show h + 1 ≤ 8; omega
  | ⟨1, _⟩ => show 0 + 256 * b ≤ 2048; omega
  | ⟨2, _⟩ => show 0 + 128 ≤ 128; omega
/-- Block `b` lies in the outgoing buffer. -/
theorem inb_O (b : ℕ) (hb : b < 8) : ∀ a, (![b, 0, 0] : Fin 3 → ℕ) a + S1x256x1024.size a ≤ S8x256x1024.size a := by
  intro a; match a with
  | ⟨0, _⟩ => show b + 1 ≤ 8; omega
  | ⟨1, _⟩ => show 0 + 256 ≤ 256; omega
  | ⟨2, _⟩ => show 0 + 1024 ≤ 1024; omega
/-- The rows of block `b` lie in the result. -/
theorem inb_R (b : ℕ) (hb : b < 8) : ∀ a, (![0, 256 * b, 0] : Fin 3 → ℕ) a + S1x256x1024.size a ≤ S1x2048x1024.size a := by
  intro a; match a with
  | ⟨0, _⟩ => show 0 + 1 ≤ 1; omega
  | ⟨1, _⟩ => show 256 * b + 256 ≤ 2048; omega
  | ⟨2, _⟩ => show 0 + 1024 ≤ 1024; omega
/-- Departure semaphore `(l, b)` is one of the sixteen. -/
theorem inb_s2 (l b : ℕ) (hl : l < 2) (hb : b < 8) : ∀ a, (![l, b] : Fin 2 → ℕ) a + S1x1.size a ≤ S2x8.size a := by
  intro a; match a with
  | ⟨0, _⟩ => show l + 1 ≤ 2; omega
  | ⟨1, _⟩ => show b + 1 ≤ 8; omega
/-- Arrival semaphore `b` is one of the eight. -/
theorem inb_s1 (b : ℕ) (hb : b < 8) : ∀ a, (![b] : Fin 1 → ℕ) a + S1.size a ≤ S8.size a := by
  intro a; match a with
  | ⟨0, _⟩ => show b + 1 ≤ 8; omega

/-- The rows of block `b`. -/
abbrev rX (b : ℕ) (hb : b < 8) : Rect S2048x1024 := Rect.unit (s := S2048x1024) ![256 * b, 0] S256x1024.size (inb_X b hb)
/-- The rows of block `b`, the lanes of head `h`. -/
abbrev rC (b h : ℕ) (hb : b < 8) (hh : h < 8) : Rect S2048x1024 := Rect.unit (s := S2048x1024) ![256 * b, 128 * h] S256x128.size (inb_C b h hb hh)
/-- The keys of block `b` of head `h`. -/
abbrev rD (b h : ℕ) (hb : b < 8) (hh : h < 8) : Rect S8x2048x128 := Rect.unit (s := S8x2048x128) ![h, 256 * b, 0] S1x256x128.size (inb_D b h hb hh)
/-- The keys of head `h` before block `b`. -/
abbrev rM (b h : ℕ) (hb : b < 8) (hh : h < 8) : Rect S8x2048x128 := Rect.unit (s := S8x2048x128) ![h, 0, 0] (K3 (256 * b)).size (inb_M b h hb hh)
/-- Block `b` of the outgoing buffer. -/
abbrev rO (b : ℕ) (hb : b < 8) : Rect S8x256x1024 := Rect.unit (s := S8x256x1024) ![b, 0, 0] S1x256x1024.size (inb_O b hb)
/-- The rows of block `b` of the result. -/
abbrev rR (b : ℕ) (hb : b < 8) : Rect S1x2048x1024 := Rect.unit (s := S1x2048x1024) ![0, 256 * b, 0] S1x256x1024.size (inb_R b hb)

/-- The rows of block `b` are whole packed rows of the input. -/
theorem packed_X (b : ℕ) (hb : b < 8) : (rX b hb).PackedRows (EltTy.packing .bf16) :=
  Idealize.ShloMosaic.Affine.packed_dvd (h2 := Nat.le_refl 2) (show 2 ∣ 256 * b by omega) (show 2 ∣ 256 by decide)
/-- A head's lanes in the rows of block `b` are whole packed rows of the context. -/
theorem packed_C (b h : ℕ) (hb : b < 8) (hh : h < 8) : (rC b h hb hh).PackedRows (EltTy.packing .bf16) :=
  Idealize.ShloMosaic.Affine.packed_dvd (h2 := Nat.le_refl 2) (show 2 ∣ 256 * b by omega) (show 2 ∣ 256 by decide)
/-- Block `b` is whole packed rows of the outgoing buffer. -/
theorem packed_O (b : ℕ) (hb : b < 8) : (rO b hb).PackedRows (EltTy.packing .bf16) :=
  Idealize.ShloMosaic.Affine.packed_dvd (h2 := Nat.le_succ 2) (show 2 ∣ 0 by decide) (show 2 ∣ 256 by decide)
/-- The rows of block `b` are whole packed rows of the result. -/
theorem packed_R (b : ℕ) (hb : b < 8) : (rR b hb).PackedRows (EltTy.packing .bf16) :=
  Idealize.ShloMosaic.Affine.packed_dvd (h2 := Nat.le_succ 2) (show 2 ∣ 256 * b by omega) (show 2 ∣ 256 by decide)
/-- Block `b` is made of whole words of the outgoing buffer. -/
theorem words_O (b : ℕ) (hb : b < 8) : (rO b hb).WholeWords (EltTy.packing .bf16) := (packed_O b hb).wholeWords

/-! ## The program, over its buffers -/

section Prog

variable (a0 : Memref sig .tc .vmem S2048x1024 .bf16) (h0 : a0.IsWhole) (a1 : Memref sig .tc .vmem S1024x1024 .bf16) (h1 : a1.IsWhole)
  (a2 : Memref sig .tc .vmem S8x2048x128 .bf16) (h2 : a2.IsWhole) (a3 : Memref sig .tc .vmem S8x2048x128 .bf16) (h3 : a3.IsWhole)
  (a4 : Memref sig .tc .vmem S1024x1024 .bf16) (h4 : a4.IsWhole) (a5 : Memref sig .tc .vmem S1x2048x1024 .bf16) (h5 : a5.IsWhole)
  (a6 : Memref sig .tc .vmem S2048x1024 .bf16) (h6 : a6.IsWhole) (a7 : Memref sig .tc .vmem S8x256x1024 .bf16) (h7 : a7.IsWhole)
  (a8 : DmaSems sig S2x8) (a9 : DmaSems sig S8) (xb : Sems sig S_)

/-- Block `b` of the outgoing buffer, as the transfers name it. -/
abbrev oM (b : ℕ) (hb : b < 8) : Memref sig .tc .vmem S256x1024 .bf16 :=
  (a7.slice (rO b hb) (fun _ => rfl)).squeeze S256x1024 squeezes_S1x256x1024_S256x1024
/-- The semaphore of the transfer of block `b` over link `l`, at its source. -/
abbrev sS (l b : ℕ) (hl : l < 2) (hb : b < 8) : DmaSem sig :=
  ((a8.slice (Rect.unit (s := S2x8) ![l, b] S1x1.size (inb_s2 l b hl hb))).squeeze S_ squeezes_S1x1_S_).sem
/-- The semaphore of the arrival of block `b`. -/
abbrev sR (b : ℕ) (hb : b < 8) : DmaSem sig :=
  ((a9.slice (Rect.unit (s := S8) ![b] S1.size (inb_s1 b hb))).squeeze S_ squeezes_S1_S_).sem

include h6 in
/-- One head of one block. -/
def head (b h : ℕ) (hb : b < 8) (hh : h < 8) : Prog (TpuEff nD τ sig (Elt F) Λ₀ .tc) PUnit := do
  let q : Vec F S256x128 .bf16 ← Prog.lift (.load a6 (rC b h hb hh).toLoadRect (View.loadsAt_vmem h_S256x128))
  let kd : Vec F (K3 256) .bf16 ← Prog.lift (.load a2 (rD b h hb hh).toLoadRect (View.loadsAt_vmem (pos_K3 (by decide))))
  let vd : Vec F (K3 256) .bf16 ← Prog.lift (.load a3 (rD b h hb hh).toLoadRect (View.loadsAt_vmem (pos_K3 (by decide))))
  if hp : 0 < b then do
    let km : Vec F (K3 (256 * b)) .bf16 ← Prog.lift (.load a2 (rM b h hb hh).toLoadRect (View.loadsAt_vmem (pos_K3 (by omega))))
    let vm : Vec F (K3 (256 * b)) .bf16 ← Prog.lift (.load a3 (rM b h hb hh).toLoadRect (View.loadsAt_vmem (pos_K3 (by omega))))
    let _ : Vec F S256x128 .bf16 ← Prog.lift (.load a6 (rC b h hb hh).toLoadRect (View.loadsAt_vmem h_S256x128))
    Prog.lift (.store a6 (rC b h hb hh) (headLater (256 * b) mask q kd vd km vm) Finset.univ
      (View.stores_vmem h_S256x128 (h6.storeExact_slice rfl _ (packed_C b h hb hh)) (fun _ => rfl)) (.inl rfl))
  else do
    let _ : Vec F S256x128 .bf16 ← Prog.lift (.load a6 (rC b h hb hh).toLoadRect (View.loadsAt_vmem h_S256x128))
    Prog.lift (.store a6 (rC b h hb hh) (headFirst mask q kd vd) Finset.univ
      (View.stores_vmem h_S256x128 (h6.storeExact_slice rfl _ (packed_C b h hb hh)) (fun _ => rfl)) (.inl rfl))

include h6 in
/-- The first `n` heads of a block, in order. -/
def heads (b : ℕ) (hb : b < 8) : (n : ℕ) → n ≤ 8 → Prog (TpuEff nD τ sig (Elt F) Λ₀ .tc) PUnit
  | 0, _ => pure ⟨⟩
  | n + 1, hn => do
    heads b hb n (by omega)
    head a2 a3 a6 h6 b n hb hn

include h7 in
/-- The transfer of block `b` over link `l` to device `d`. -/
def send (d : Dev nD) (l b : ℕ) (hl : l < 2) (hb : b < 8) : Prog (TpuEff nD τ sig (Elt F) Λ₀ .tc) PUnit :=
  Prog.lift (.enqueueDma (oM a7 b hb) (.remote (Dev.tc d) (oM a7 b hb) (.dma (sS a8 l b hl hb))) (.dma (sR a9 b hb))
    ((h7.wordExact_slice rfl _ (words_O b hb)).reshape _ _) ((h7.wordExact_slice rfl _ (words_O b hb)).reshape _ _) ⟨⟨rfl, Or.inl rfl⟩, trivial⟩)

include h7 in
/-- The wait for the arrival of block `b`. -/
def waitR (b : ℕ) (hb : b < 8) : Prog (TpuEff nD τ sig (Elt F) Λ₀ .tc) PUnit :=
  Prog.lift (.waitDma2 (sR a9 b hb) (oM a7 b hb) (oM a7 b hb)
    ((h7.wordExact_slice rfl _ (words_O b hb)).reshape _ _) ((h7.wordExact_slice rfl _ (words_O b hb)).reshape _ _))

include h7 in
/-- The wait for the end of the transfer of block `b` over link `l`. -/
def waitS (l b : ℕ) (hl : l < 2) (hb : b < 8) : Prog (TpuEff nD τ sig (Elt F) Λ₀ .tc) PUnit :=
  Prog.lift (.waitDma2 (sS a8 l b hl hb) (oM a7 b hb) (oM a7 b hb)
    ((h7.wordExact_slice rfl _ (words_O b hb)).reshape _ _) ((h7.wordExact_slice rfl _ (words_O b hb)).reshape _ _))

include h5 h6 h7 in
/-- Device 0's work on one block: the queries, the heads, the projection, the two transfers, the own result. -/
def block (b : ℕ) (hb : b < 8) : Prog (TpuEff nD τ sig (Elt F) Λ₀ .tc) PUnit := do
  let x : Vec F S256x1024 .bf16 ← Prog.lift (.load a0 (rX b hb).toLoadRect (View.loadsAt_vmem h_S256x1024))
  let w : Vec F S1024x1024 .bf16 ← Prog.lift (.load a1 (Rect.unit (s := S1024x1024) ![0, 0] S1024x1024.size inb_S1024x1024_S1024x1024_0_0).toLoadRect (View.loadsAt_vmem h_S1024x1024))
  let _ : Vec F S256x1024 .bf16 ← Prog.lift (.load a6 (rX b hb).toLoadRect (View.loadsAt_vmem h_S256x1024))
  Prog.lift (.store a6 (rX b hb) (payQ x w) Finset.univ
    (View.stores_vmem h_S256x1024 (h6.storeExact_slice rfl _ (packed_X b hb)) (fun _ => rfl)) (.inl rfl))
  heads a2 a3 a6 h6 b hb 8 (le_refl 8)
  let c : Vec F S256x1024 .bf16 ← Prog.lift (.load a6 (rX b hb).toLoadRect (View.loadsAt_vmem h_S256x1024))
  let wo : Vec F S1024x1024 .bf16 ← Prog.lift (.load a4 (Rect.unit (s := S1024x1024) ![0, 0] S1024x1024.size inb_S1024x1024_S1024x1024_0_0).toLoadRect (View.loadsAt_vmem h_S1024x1024))
  let _ : Vec F S1x256x1024 .bf16 ← Prog.lift (.load a7 (rO b hb).toLoadRect (View.loadsAt_vmem h_S1x256x1024))
  Prog.lift (.store a7 (rO b hb) (payO (proj c wo)) Finset.univ
    (View.stores_vmem h_S1x256x1024 (h7.storeExact_slice rfl _ (packed_O b hb)) (fun _ => rfl)) (.inl rfl))
  send a7 h7 a8 a9 1 0 b (by decide) hb
  send a7 h7 a8 a9 3 1 b (by decide) hb
  let _ : Vec F S1x256x1024 .bf16 ← Prog.lift (.load a5 (rR b hb).toLoadRect (View.loadsAt_vmem h_S1x256x1024))
  Prog.lift (.store a5 (rR b hb) (payO (proj c wo)) Finset.univ
    (View.stores_vmem h_S1x256x1024 (h5.storeExact_slice rfl _ (packed_R b hb)) (fun _ => rfl)) (.inl rfl))

include h5 h6 h7 in
/-- Device 0's first `n` blocks, in order. -/
def blocks : (n : ℕ) → n ≤ 8 → Prog (TpuEff nD τ sig (Elt F) Λ₀ .tc) PUnit
  | 0, _ => pure ⟨⟩
  | n + 1, hn => do
    blocks n (by omega)
    block a0 a1 a2 a3 a4 a5 h5 a6 h6 a7 h7 a8 a9 n hn

include h7 in
/-- Device 0's waits for its first `n` blocks' transfers. -/
def sent : (n : ℕ) → n ≤ 8 → Prog (TpuEff nD τ sig (Elt F) Λ₀ .tc) PUnit
  | 0, _ => pure ⟨⟩
  | n + 1, hn => do
    sent n (by omega)
    waitS a7 h7 a8 0 n (by decide) hn
    waitS a7 h7 a8 1 n (by decide) hn

/-- Device `c` passes block `b` on to device 2: device 1 the even blocks, device 3 the odd ones. -/
def Relays (c : Dev nD) (b : ℕ) : Prop := c.val = b % 2 * 2 + 1
instance (c : Dev nD) (b : ℕ) : Decidable (Relays c b) := inferInstanceAs (Decidable (_ = _))

include h5 h7 in
/-- A receiver's work on one block: wait for it, pass it on if it is its to pass, copy it to the result. -/
def recv (c : Dev nD) (b : ℕ) (hb : b < 8) : Prog (TpuEff nD τ sig (Elt F) Λ₀ .tc) PUnit := do
  waitR a7 h7 a9 b hb
  if Relays c b then send a7 h7 a8 a9 2 0 b (by decide) hb else pure ⟨⟩
  let o : Vec F S1x256x1024 .bf16 ← Prog.lift (.load a7 (rO b hb).toLoadRect (View.loadsAt_vmem h_S1x256x1024))
  let _ : Vec F S1x256x1024 .bf16 ← Prog.lift (.load a5 (rR b hb).toLoadRect (View.loadsAt_vmem h_S1x256x1024))
  Prog.lift (.store a5 (rR b hb) (payR o) Finset.univ
    (View.stores_vmem h_S1x256x1024 (h5.storeExact_slice rfl _ (packed_R b hb)) (fun _ => rfl)) (.inl rfl))

include h5 h7 in
/-- A receiver's first `n` blocks, in order. -/
def recvs (c : Dev nD) : (n : ℕ) → n ≤ 8 → Prog (TpuEff nD τ sig (Elt F) Λ₀ .tc) PUnit
  | 0, _ => pure ⟨⟩
  | n + 1, hn => do
    recvs c n (by omega)
    recv a5 h5 a7 h7 a8 a9 c n hn

include h7 in
/-- A receiver's waits for the blocks it passed on, among the first `n`. -/
def relayed (c : Dev nD) : (n : ℕ) → n ≤ 8 → Prog (TpuEff nD τ sig (Elt F) Λ₀ .tc) PUnit
  | 0, _ => pure ⟨⟩
  | n + 1, hn => do
    relayed c n (by omega)
    if Relays c n then waitS a7 h7 a8 0 n (by decide) hn else pure ⟨⟩

/-- The neighbour a device signals first, and the one it signals second. -/
def nb1 (c : Dev nD) : Dev nD := if c.val % 2 = 0 then 1 else 0
/-- The second device that a device signals in a barrier. -/
def nb2 (c : Dev nD) : Dev nD := if c.val % 2 = 0 then 3 else 2

/-- A barrier between a device and its two neighbours. -/
def barrier (c : Dev nD) (s : Sem sig) : Prog (TpuEff nD τ sig (Elt F) Λ₀ .tc) PUnit := do
  semSignalWord (nb1 c) s 1#32
  semSignalWord (nb2 c) s 1#32
  semWaitWord s 2#32

include h5 h6 h7 in
/-- Device 0's work, and a receiver's. -/
def work (c : Dev nD) : Prog (TpuEff nD τ sig (Elt F) Λ₀ .tc) PUnit :=
  if c.val = 0 then do
    blocks a0 a1 a2 a3 a4 a5 h5 a6 h6 a7 h7 a8 a9 8 (le_refl 8)
    sent a7 h7 a8 8 (le_refl 8)
  else do
    recvs a5 h5 a7 h7 a8 a9 c 8 (le_refl 8)
    relayed a7 h7 a8 c 8 (le_refl 8)

include h5 h6 h7 in
/-- One device's program, after it has read which device it is. -/
def prog (c : Dev nD) : Prog (TpuEff nD τ sig (Elt F) Λ₀ .tc) PUnit := do
  barrier c ((SemArray.scalar (sig.barrier 0 rfl) : Sems sig S_)).sem
  work a0 a1 a2 a3 a4 a5 h5 a6 h6 a7 h7 a8 a9 c
  barrier c xb.sem

/-! ## The printed program is it -/

/-- The printed body after the device is read. -/
def tail (d0 : Dev nD) : Prog (TpuEff nD τ sig (Elt F) Λ₀ .tc) PUnit :=
  match (cc0_body (F := F) a0 h0 a1 h1 a2 h2 a3 h3 a4 h4 a5 h5 a6 h6 a7 h7 a8 a9 xb) with
  | .op .deviceId k => k d0
  | _ => pure ⟨⟩

set_option maxRecDepth 65536 in
/-- The printed kernel is the recursion over blocks and heads. -/
theorem body_eq : cc0_body (F := F) a0 h0 a1 h1 a2 h2 a3 h3 a4 h4 a5 h5 a6 h6 a7 h7 a8 a9 xb
    = .op .deviceId (tail (F := F) a0 h0 a1 h1 a2 h2 a3 h3 a4 h4 a5 h5 a6 h6 a7 h7 a8 a9 xb) := by
  chain_rfl

set_option maxRecDepth 65536 in
/-- After the device is read, on device 0 the printed kernel is the recursion's program for it. -/
theorem tail_0 : tail (F := F) a0 h0 a1 h1 a2 h2 a3 h3 a4 h4 a5 h5 a6 h6 a7 h7 a8 a9 xb 0 = prog a0 a1 a2 a3 a4 a5 h5 a6 h6 a7 h7 a8 a9 xb 0 := by
  chain_rfl
set_option maxRecDepth 65536 in
/-- After the device is read, on device 1 the printed kernel is the recursion's program for it. -/
theorem tail_1 : tail (F := F) a0 h0 a1 h1 a2 h2 a3 h3 a4 h4 a5 h5 a6 h6 a7 h7 a8 a9 xb 1 = prog a0 a1 a2 a3 a4 a5 h5 a6 h6 a7 h7 a8 a9 xb 1 := by
  chain_rfl
set_option maxRecDepth 65536 in
/-- After the device is read, on device 2 the printed kernel is the recursion's program for it. -/
theorem tail_2 : tail (F := F) a0 h0 a1 h1 a2 h2 a3 h3 a4 h4 a5 h5 a6 h6 a7 h7 a8 a9 xb 2 = prog a0 a1 a2 a3 a4 a5 h5 a6 h6 a7 h7 a8 a9 xb 2 := by
  chain_rfl
set_option maxRecDepth 65536 in
/-- After the device is read, on device 3 the printed kernel is the recursion's program for it. -/
theorem tail_3 : tail (F := F) a0 h0 a1 h1 a2 h2 a3 h3 a4 h4 a5 h5 a6 h6 a7 h7 a8 a9 xb 3 = prog a0 a1 a2 a3 a4 a5 h5 a6 h6 a7 h7 a8 a9 xb 3 := by
  chain_rfl
/-- On each device what follows is that device's program, its conditions decided. -/
theorem tail_eq (c : Dev nD) : tail (F := F) a0 h0 a1 h1 a2 h2 a3 h3 a4 h4 a5 h5 a6 h6 a7 h7 a8 a9 xb c = prog a0 a1 a2 a3 a4 a5 h5 a6 h6 a7 h7 a8 a9 xb c := by
  fin_cases c
  · exact tail_0 a0 h0 a1 h1 a2 h2 a3 h3 a4 h4 a5 h5 a6 h6 a7 h7 a8 a9 xb
  · exact tail_1 a0 h0 a1 h1 a2 h2 a3 h3 a4 h4 a5 h5 a6 h6 a7 h7 a8 a9 xb
  · exact tail_2 a0 h0 a1 h1 a2 h2 a3 h3 a4 h4 a5 h5 a6 h6 a7 h7 a8 a9 xb
  · exact tail_3 a0 h0 a1 h1 a2 h2 a3 h3 a4 h4 a5 h5 a6 h6 a7 h7 a8 a9 xb

end Prog

end Cert.KernelIdeal.Blocks

end
-- ==== Proof.Compute.lean ====
/- What device 0 computes: the values of its blocks, and the run of one head, of a block's heads, and of a block up to its result. -/
module

public import proofs.«01_k».proof.Proof.Blocks
public import Idealize.ShloMosaic.Lib.ValueIdxCore
public import Idealize.ShloMosaic.Lib.Tactic
public import Idealize.ShloMosaic.Lib.Rounds
public import Idealize.ShloMosaic.Lib.Ring

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The values of a block -/

/-- What a rectangle of an array holds. -/
def part {s : Shape} {e : EltTy} (r : Rect s) (f : Vec F s e) : Vec F r.shape e := fun x => f (r.emb x)

/-- The whole of a square matrix, as the loads name it. -/
abbrev rW : Rect S1024x1024 := Rect.unit (s := S1024x1024) ![0, 0] S1024x1024.size inb_S1024x1024_S1024x1024_0_0

section Values

variable (fX : Vec F S2048x1024 .bf16) (fQ : Vec F S1024x1024 .bf16) (fK fV : Vec F S8x2048x128 .bf16) (fO : Vec F S1024x1024 .bf16)

/-- The queries of block `b`. -/
def qB (b : ℕ) (hb : b < 8) : Vec F S256x1024 .bf16 := payQ (part (rX b hb) fX) (part rW fQ)

/-- Where lane `x` of head `h` lies among the block's lanes. -/
def lane (h : ℕ) (hh : h < 8) (x : S256x128.Idx) : S256x1024.Idx :=
  ix2 (x 0) ⟨128 * h + (x 1).val, by have h1 : (x 1).val < 128 := idx2_lt1 x; omega⟩

/-- The queries of head `h` of block `b`. -/
def qH (b h : ℕ) (hb : b < 8) (hh : h < 8) : Vec F S256x128 .bf16 := fun x => qB fX fQ b hb (lane h hh x)

/-- A head's result on queries `q`. -/
def headOf (b h : ℕ) (hb : b < 8) (hh : h < 8) (q : Vec F S256x128 .bf16) : Vec F S256x128 .bf16 :=
  if 0 < b then
    headLater (256 * b) mask q (part (rD b h hb hh) fK) (part (rD b h hb hh) fV) (part (rM b h hb hh) fK) (part (rM b h hb hh) fV)
  else headFirst mask q (part (rD b h hb hh) fK) (part (rD b h hb hh) fV)

/-- The result of head `h` of block `b`. -/
def cH (b h : ℕ) (hb : b < 8) (hh : h < 8) : Vec F S256x128 .bf16 := headOf fK fV b h hb hh (qH fX fQ b h hb hh)

/-- The heads' results of block `b` side by side. -/
def cB (b : ℕ) (hb : b < 8) : Vec F S256x1024 .bf16 := fun i =>
  cH fX fQ fK fV b ((i 1).val / 128) hb (by have h1 : (i 1).val < 1024 := idx2_lt1 i; omega)
    (ix2 (i 0) ⟨(i 1).val % 128, Nat.mod_lt _ (by decide)⟩)

/-- Block `b` of the result. -/
def oB (b : ℕ) (hb : b < 8) : Vec F S1x256x1024 .bf16 := payO (proj (cB fX fQ fK fV b hb) (part rW fO))

/-- All the blocks of the result, one after another. -/
def oAll : Vec F S8x256x1024 .bf16 := fun i => oB fX fQ fK fV fO (i 0).val (i 0).isLt (ix3 (0 : Fin 1) (i 1) (i 2))

/-- The result. -/
def rAll : Vec F S1x2048x1024 .bf16 := fun i =>
  oB fX fQ fK fV fO ((i 1).val / 256) (by have h1 : (i 1).val < 2048 := (i 1).isLt; omega)
    (ix3 (0 : Fin 1) ⟨(i 1).val % 256, Nat.mod_lt _ (by decide)⟩ (i 2))

/-- The buffer of the heads' results, with `n` heads of block `b` done: their results, the queries in the other lanes. -/
def Done (b : ℕ) (hb : b < 8) (n : ℕ) (f : Vec F S2048x1024 .bf16) : Prop :=
  ∀ i : S256x1024.Idx, f ((rX b hb).emb i) = if (i 1).val < 128 * n then cB fX fQ fK fV b hb i else qB fX fQ b hb i

end Values

/-! ## Writes through a whole buffer's rectangles -/

section Writes

variable (b : Ref sig .tc) (r : Rect b.ty.shape) (f : b.ty.Contents (Elt F)) (w : r.shape.Idx → Elt F b.ty.elt)

/-- A read of a rectangle of a buffer gives its elements there. -/
theorem read_access : ((Memref.whole b).access r).read (Elt F) f = fun x => f (r.emb x) := rfl

/-- A write of a rectangle changes its elements to those written. -/
theorem write_in (x : r.shape.Idx) : ((Memref.whole b).access r).write (Elt F) f w Finset.univ (r.emb x) = w x :=
  View.write_emb_of_mem (v := (Memref.whole b).access r) f w (Finset.mem_univ x)

/-- A write of a rectangle changes nothing outside it. -/
theorem write_out {i : b.ty.shape.Idx} (hi : i ∉ r.set) : ((Memref.whole b).access r).write (Elt F) f w Finset.univ i = f i :=
  View.write_of_not_mem (v := (Memref.whole b).access r) f w Finset.univ (by
    rw [View.setOn_univ]; rw [show ((Memref.whole b).access r).set = r.set from View.set_slice_whole b r]; exact hi)

end Writes

/-- Head `h`'s lanes in block `b` are lanes of block `b`'s rows. -/
theorem emb_C (b h : ℕ) (hb : b < 8) (hh : h < 8) (x : S256x128.Idx) : (rC b h hb hh).emb x = (rX b hb).emb (lane h hh x) := by
  funext a; refine Fin.ext ?_
  match a with
  | ⟨0, _⟩ => rfl
  | ⟨1, _⟩ => show 128 * h + 1 * (x 1).val = 0 + 1 * (128 * h + (x 1).val); omega

/-- A lane of block `b`'s rows among head `h`'s is one of its 128. -/
theorem mem_C {b h : ℕ} {hb : b < 8} {hh : h < 8} {i : S256x1024.Idx} (hi : (rX b hb).emb i ∈ (rC b h hb hh).set) :
    128 * h ≤ (i 1).val ∧ (i 1).val < 128 * h + 128 := by
  obtain ⟨j, hj, e⟩ := (LoadRect.mem_set _).mp hi 1
  have e' : 0 + 1 * (i 1).val = 128 * h + 1 * j := e
  have hj' : j < 128 := hj
  omega

section Done

variable {fX : Vec F S2048x1024 .bf16} {fQ : Vec F S1024x1024 .bf16} {fK fV : Vec F S8x2048x128 .bf16}

/-- With `n` heads done, head `n`'s lanes still hold its queries. -/
theorem done_q {b n : ℕ} {hb : b < 8} {hn : n < 8} {f : Vec F S2048x1024 .bf16} (hf : Done fX fQ fK fV b hb n f) :
    part (rC b n hb hn) f = qH fX fQ b n hb hn := by
  funext x
  show f ((rC b n hb hn).emb x) = qB fX fQ b hb (lane n hn x)
  rw [emb_C, hf, if_neg]
  show ¬ 128 * n + (x 1).val < 128 * n
  omega

/-- Writing head `n`'s context makes `n + 1` heads done. -/
theorem done_step {b n : ℕ} {hb : b < 8} {hn : n < 8} {f : Vec F S2048x1024 .bf16} (hf : Done fX fQ fK fV b hb n f) :
    Done fX fQ fK fV b hb (n + 1)
      (((Memref.whole cc0_scratch0).access (rC b n hb hn)).write (Elt F) f (headOf fK fV b n hb hn (part (rC b n hb hn) f)) Finset.univ) := by
  rw [done_q hf]
  intro i
  by_cases h : 128 * n ≤ (i 1).val ∧ (i 1).val < 128 * n + 128
  · have hx : (rX b hb).emb i = (rC b n hb hn).emb (ix2 (i 0) ⟨(i 1).val - 128 * n, by omega⟩) := by
      rw [emb_C]; congr 1
      funext a; refine Fin.ext ?_
      match a with
      | ⟨0, _⟩ => rfl
      | ⟨1, _⟩ => show (i 1).val = 128 * n + ((i 1).val - 128 * n); omega
    rw [hx, write_in, if_pos (by omega)]
    have e1 : (i 1).val / 128 = n := by omega
    have e2 : (i 1).val % 128 = (i 1).val - 128 * n := by omega
    unfold cB
    simp only [e1, e2]
    rfl
  · rw [write_out _ _ _ _ (fun hm => h (mem_C hm)), hf]
    by_cases h1 : (i 1).val < 128 * n
    · rw [if_pos h1, if_pos (by omega)]
    · rw [if_neg h1, if_neg (by omega)]

/-- Writing a block's queries makes none of its heads done. -/
theorem done_zero {b : ℕ} {hb : b < 8} (f : Vec F S2048x1024 .bf16) :
    Done fX fQ fK fV b hb 0 (((Memref.whole cc0_scratch0).access (rX b hb)).write (Elt F) f (qB fX fQ b hb) Finset.univ) := by
  intro i
  rw [if_neg (by omega)]
  exact write_in cc0_scratch0 (rX b hb) f (qB fX fQ b hb) i

/-- With all heads done the rows hold the block's context. -/
theorem done_all {b : ℕ} {hb : b < 8} {f : Vec F S2048x1024 .bf16} (hf : Done fX fQ fK fV b hb 8 f) :
    part (rX b hb) f = cB fX fQ fK fV b hb := by
  funext i
  show f ((rX b hb).emb i) = _
  have h1 : (i 1).val < 1024 := idx2_lt1 i
  rw [hf, if_pos (by omega)]

end Done

/-! ## The run of a head and of a block's heads -/

/-- The ghost state: the pipeline's rounds and the protocol's. -/
abbrev UU : Type := UR sig nD τ × URounds (GSem nD τ sig) (Dev nD)

local notation "𝕄" => MT nD τ sig Unit (Elt F) ℕ UU ℕ

/-- No loop needs a variant. -/
abbrev 𝒱₀ : Variants := Variants.none

/-- The input rows. -/
abbrev A0 : Memref sig .tc .vmem S2048x1024 .bf16 := Memref.whole cc0_stg0_0
/-- The query weights. -/
abbrev A1 : Memref sig .tc .vmem S1024x1024 .bf16 := Memref.whole cc0_stg1_0
/-- The keys. -/
abbrev A2 : Memref sig .tc .vmem S8x2048x128 .bf16 := Memref.whole cc0_stg2_0
/-- The values. -/
abbrev A3 : Memref sig .tc .vmem S8x2048x128 .bf16 := Memref.whole cc0_stg3_0
/-- The output weights. -/
abbrev A4 : Memref sig .tc .vmem S1024x1024 .bf16 := Memref.whole cc0_stg4_0
/-- The result. -/
abbrev A5 : Memref sig .tc .vmem S1x2048x1024 .bf16 := Memref.whole cc0_stg5_0
/-- The scratch for queries and context. -/
abbrev A6 : Memref sig .tc .vmem S2048x1024 .bf16 := Memref.whole cc0_scratch0
/-- The outgoing buffer. -/
abbrev A7 : Memref sig .tc .vmem S8x256x1024 .bf16 := Memref.whole cc0_scratch1

/-- A buffer of a device, whole, at contents `f`. -/
abbrev pt (c : Dev nD) (b : Ref sig .tc) (f : b.ty.Contents (Elt F)) : sProp 𝕄 := ((c : Thread nD τ).loc b) ↦{fullShare} f

variable (c : Dev nD)

set_option maxHeartbeats 1000000 in
/-- One head: the lanes of its queries become its result. -/
theorem wp_head (b h : ℕ) (hb : b < 8) (hh : h < 8) (fK fV : Vec F S8x2048x128 .bf16) (f : Vec F S2048x1024 .bf16) (Q : PUnit → sProp 𝕄) :
    iprop(pt c cc0_stg2_0 fK ∗ pt c cc0_stg3_0 fV ∗ pt c cc0_scratch0 f)
      ⊢ iprop((pt c cc0_stg2_0 fK ∗ pt c cc0_stg3_0 fV
          ∗ pt c cc0_scratch0 (((Memref.whole cc0_scratch0).access (rC b h hb hh)).write (Elt F) f (headOf fK fV b h hb hh (part (rC b h hb hh) f)) Finset.univ)
          -∗ Q ⟨⟩) -∗ wp frame (wpE (defs₀ (F := F)) 𝒱₀ c none) Set.univ (head A2 A3 A6 (Memref.isWhole_whole _) b h hb hh) Q) := by
  unfold head headOf
  iintro ⟨HK, HV, HC⟩ Hk
  by_cases hp : 0 < b
  · simp only [hp, dif_pos, if_pos, Prog.lift, bind, Prog.bind_op, Prog.bind_ret, ↓reduceIte, ↓reduceDIte]
    iapply (wp_load_rect 𝒱₀ (c : Thread nD τ) none Set.univ (m := A6) (r := rC b h hb hh) (S := Finset.univ) (q := fullShare) (f := f) (Finset.subset_univ _)) $$ HC
    iintro HC
    iapply (wp_load_rect 𝒱₀ (c : Thread nD τ) none Set.univ (m := A2) (r := rD b h hb hh) (S := Finset.univ) (q := fullShare) (f := fK) (Finset.subset_univ _)) $$ HK
    iintro HK
    iapply (wp_load_rect 𝒱₀ (c : Thread nD τ) none Set.univ (m := A3) (r := rD b h hb hh) (S := Finset.univ) (q := fullShare) (f := fV) (Finset.subset_univ _)) $$ HV
    iintro HV
    iapply (wp_load_rect 𝒱₀ (c : Thread nD τ) none Set.univ (m := A2) (r := rM b h hb hh) (S := Finset.univ) (q := fullShare) (f := fK) (Finset.subset_univ _)) $$ HK
    iintro HK
    iapply (wp_load_rect 𝒱₀ (c : Thread nD τ) none Set.univ (m := A3) (r := rM b h hb hh) (S := Finset.univ) (q := fullShare) (f := fV) (Finset.subset_univ _)) $$ HV
    iintro HV
    iapply (wp_load_rect 𝒱₀ (c : Thread nD τ) none Set.univ (m := A6) (r := rC b h hb hh) (S := Finset.univ) (q := fullShare) (f := f) (Finset.subset_univ _)) $$ HC
    iintro HC
    iapply (wp_store 𝒱₀ (c : Thread nD τ) none Set.univ (m := A6) (r := rC b h hb hh) (Mk := Finset.univ) (S := Finset.univ) (f := f) (Finset.subset_univ _)) $$ HC
    iintro HC
    rw [wp_ret]
    imodintro
    iapply Hk
    isplitl [HK]; · iexact HK
    isplitl [HV]; · iexact HV
    iexact HC
  · simp only [hp, dif_neg, if_neg, not_false_eq_true, Prog.lift, bind, Prog.bind_op, Prog.bind_ret, ↓reduceIte, ↓reduceDIte]
    iapply (wp_load_rect 𝒱₀ (c : Thread nD τ) none Set.univ (m := A6) (r := rC b h hb hh) (S := Finset.univ) (q := fullShare) (f := f) (Finset.subset_univ _)) $$ HC
    iintro HC
    iapply (wp_load_rect 𝒱₀ (c : Thread nD τ) none Set.univ (m := A2) (r := rD b h hb hh) (S := Finset.univ) (q := fullShare) (f := fK) (Finset.subset_univ _)) $$ HK
    iintro HK
    iapply (wp_load_rect 𝒱₀ (c : Thread nD τ) none Set.univ (m := A3) (r := rD b h hb hh) (S := Finset.univ) (q := fullShare) (f := fV) (Finset.subset_univ _)) $$ HV
    iintro HV
    iapply (wp_load_rect 𝒱₀ (c : Thread nD τ) none Set.univ (m := A6) (r := rC b h hb hh) (S := Finset.univ) (q := fullShare) (f := f) (Finset.subset_univ _)) $$ HC
    iintro HC
    iapply (wp_store 𝒱₀ (c : Thread nD τ) none Set.univ (m := A6) (r := rC b h hb hh) (Mk := Finset.univ) (S := Finset.univ) (f := f) (Finset.subset_univ _)) $$ HC
    iintro HC
    rw [wp_ret]
    imodintro
    iapply Hk
    isplitl [HK]; · iexact HK
    isplitl [HV]; · iexact HV
    iexact HC

/-- The first `n` heads of a block: their lanes become their results. -/
theorem wp_heads (b : ℕ) (hb : b < 8) (fX : Vec F S2048x1024 .bf16) (fQ : Vec F S1024x1024 .bf16) (fK fV : Vec F S8x2048x128 .bf16) :
    ∀ (n : ℕ) (hn : n ≤ 8) (f : Vec F S2048x1024 .bf16) (Q : PUnit → sProp 𝕄), Done fX fQ fK fV b hb 0 f →
      (iprop(pt c cc0_stg2_0 fK ∗ pt c cc0_stg3_0 fV ∗ pt c cc0_scratch0 f)
        ⊢ iprop((pt c cc0_stg2_0 fK ∗ pt c cc0_stg3_0 fV ∗ (∃ f', ⌜Done fX fQ fK fV b hb n f'⌝ ∗ pt c cc0_scratch0 f') -∗ Q ⟨⟩)
          -∗ wp frame (wpE (defs₀ (F := F)) 𝒱₀ c none) Set.univ (heads A2 A3 A6 (Memref.isWhole_whole _) b hb n hn) Q)) := by
  intro n
  induction n with
  | zero =>
    intro hn f Q hf
    unfold heads
    iintro ⟨HK, HV, HC⟩ Hk
    rw [show (pure PUnit.unit : Prog (TpuEff nD τ sig (Elt F) Λ₀ .tc) PUnit) = .ret ⟨⟩ from rfl, wp_ret]
    imodintro
    iapply Hk
    isplitl [HK]; · iexact HK
    isplitl [HV]; · iexact HV
    iexists f
    isplitr; · ipureintro; exact hf
    iexact HC
  | succ n ih =>
    intro hn f Q hf
    unfold heads
    iintro H Hk
    rw [wp_bind]
    iapply (ih (Nat.le_of_succ_le hn) f _ hf) $$ H
    iintro ⟨HK, HV, ⟨%f', %hf', HC⟩⟩
    iapply (wp_head c b n hb hn fK fV f' Q) $$ [HK HV HC]
    · isplitl [HK]; · iexact HK
      isplitl [HV]; · iexact HV
      iexact HC
    iintro ⟨HK, HV, HC⟩
    iapply Hk
    isplitl [HK]; · iexact HK
    isplitl [HV]; · iexact HV
    iexists (((Memref.whole cc0_scratch0).access (rC b n hb hn)).write (Elt F) f' (headOf fK fV b n hb hn (part (rC b n hb hn) f')) Finset.univ)
    isplitr; · ipureintro; exact done_step hf'
    iexact HC

end Cert.KernelIdeal.Blocks

end
-- ==== Proof.Proto.lean ====
/- The protocol of the four devices: which semaphore is signalled by whom, how much, with what contents handed over, and what each device owes.

   entry barrier     every device waits for one unit of each of its two neighbours; the neighbour hands over its blocks of the outgoing buffer
                     that this device will write, and that their arrival semaphores and its exit barrier are ready;
   departure (l, b)  device 0 for both links, the passing device for link 0: the share of block `b` that the transfer read comes back;
   arrival b         on devices 1 and 3 by device 0's transfer, on device 2 by the passing device's: block `b`, holding the result's block `b`;
   exit barrier      as the entry barrier, nothing handed over. -/
module

public import proofs.«01_k».proof.Proof.Compute

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The pipeline's part of the ghost state. -/
abbrev EP : Emb (UR sig nD τ) (MT nD τ sig Unit (Elt F) ℕ UU ℕ) := embL
/-- The protocol's part of the ghost state. -/
abbrev ER : Emb (URounds (GSem nD τ sig) (Dev nD)) (MT nD τ sig Unit (Elt F) ℕ UU ℕ) := embR

/-! ## The semaphores -/

/-- The kernel's own semaphores. -/
inductive Own
  | xch
  | snd (l : Fin 2) (b : Fin 8)
  | rcv (b : Fin 8)
deriving DecidableEq

/-- The departure semaphores among a device's own. -/
def sndEmb : Fin 2 × Fin 8 ↪ Own := ⟨fun x => .snd x.1 x.2, fun _ _ h => by injection h with h1 h2; exact Prod.ext h1 h2⟩
/-- The arrival semaphores among a device's own. -/
def rcvEmb : Fin 8 ↪ Own := ⟨fun b => .rcv b, fun _ _ h => by injection h⟩

instance : Fintype Own where
  elems := insert .xch (Finset.univ.map sndEmb ∪ Finset.univ.map rcvEmb)
  complete
    | .xch => Finset.mem_insert_self _ _
    | .snd l b => Finset.mem_insert_of_mem (Finset.mem_union_left _ (Finset.mem_map_of_mem sndEmb (Finset.mem_univ (l, b))))
    | .rcv b => Finset.mem_insert_of_mem (Finset.mem_union_right _ (Finset.mem_map_of_mem rcvEmb (Finset.mem_univ b)))

/-- With the entry barrier's. -/
abbrev Key : Type := Option Own

/-- The entry barrier's semaphore. -/
abbrev barS : Sem sig := ((SemArray.scalar (sig.barrier 0 rfl) : Sems sig S_)).sem

/-- Which semaphore each is. -/
def own : Own → SemLoc sig
  | .xch => .reg cc0_scoped0.sem
  | .snd l b => .dma (sS cc0_scratch2 l.val b.val l.isLt b.isLt)
  | .rcv b => .dma (sR cc0_scratch3 b.val b.isLt)
/-- The semaphore that a key names. -/
def sem : Key → SemLoc sig
  | none => .reg barS
  | some k => own k

set_option maxRecDepth 8192 in
/-- Different keys name different semaphores. -/
theorem sem_inj : Function.Injective sem := by decide +kernel

/-- Which a semaphore is, if one of them. -/
def key (s : SemLoc sig) : Option Key := Function.partialInv sem s
/-- The key of the semaphore that `k` names is `k`. -/
theorem key_sem (k : Key) : key (sem k) = some k := Function.partialInv_left sem_inj k

/-- Device `c`'s semaphore `k`. -/
abbrev cell (c : Dev nD) (k : Key) : GSem nD τ sig := ((c : Thread nD τ), sem k)

/-- Different devices or keys have different semaphores. -/
theorem cell_inj {c c' : Dev nD} {k k' : Key} (h : cell c k = cell c' k') : c = c' ∧ k = k' :=
  ⟨congrArg (fun g : GSem nD τ sig => g.1.1) h, sem_inj (congrArg Prod.snd h)⟩

/-! ## Who pays what -/

/-- Device `d` feeds block `b` to device `c`. -/
def Feeds (d c : Dev nD) (b : ℕ) : Prop := (d = 0 ∧ (c = 1 ∨ c = 3)) ∨ (c = 2 ∧ Relays d b)
instance (d c : Dev nD) (b : ℕ) : Decidable (Feeds d c b) := inferInstanceAs (Decidable (_ ∨ _))

/-- Device `c` sends block `b` over link `l`. -/
def Sends (c : Dev nD) (l : Fin 2) (b : ℕ) : Prop := c = 0 ∨ (l = 0 ∧ Relays c b)
instance (c : Dev nD) (l : Fin 2) (b : ℕ) : Decidable (Sends c l b) := inferInstanceAs (Decidable (_ ∨ _))

/-- Device `d` signals device `c`'s semaphore `k`. -/
def Pays (d c : Dev nD) : Key → Prop
  | none => d = nb1 c ∨ d = nb2 c
  | some .xch => d = nb1 c ∨ d = nb2 c
  | some (.snd l b) => d = c ∧ Sends c l b.val
  | some (.rcv b) => Feeds d c b.val
instance (d c : Dev nD) : (k : Key) → Decidable (Pays d c k)
  | none => inferInstanceAs (Decidable (_ ∨ _))
  | some .xch => inferInstanceAs (Decidable (_ ∨ _))
  | some (.snd _ _) => inferInstanceAs (Decidable (_ ∧ _))
  | some (.rcv b) => inferInstanceAs (Decidable (Feeds d c b.val))

/-- The units of a transfer of one block. -/
def N : ℕ := (oM A7 0 (by decide)).view.dmaCredit
/-- A block's transfer has at least one unit. -/
theorem N_pos : 0 < N := View.dmaCredit_pos _ (by decide)

/-- The units of one signal. -/
def amt : Key → ℕ
  | none => 1
  | some .xch => 1
  | some (.snd _ _) => N
  | some (.rcv _) => N
/-- Every signal has at least one unit. -/
theorem amt_pos : ∀ k : Key, 0 < amt k
  | none => Nat.one_pos
  | some .xch => Nat.one_pos
  | some (.snd _ _) => N_pos
  | some (.rcv _) => N_pos

/-- The level of device `c`'s semaphore `k`. -/
def lev (c : Dev nD) : Key → ℕ
  | none => 1
  | some .xch => 4
  | some (.snd _ _) => 0
  | some (.rcv _) => if c = 2 then 3 else 2

/-! ## The blocks of the outgoing buffer -/

/-- Block `b` of device `c`'s outgoing buffer, at share `q`, at contents `f`. -/
abbrev blk (c : Dev nD) (b : Fin 8) (q : PosShare TreeShare) (f : Vec F S8x256x1024 .bf16) : sProp 𝕄 :=
  (oM A7 b.val b.isLt).view.loc (c : Thread nD τ) ↦[(oM A7 b.val b.isLt).view.set]{q} f

/-- The share the transfer over link `l` reads. -/
def half (l : Fin 2) : PosShare TreeShare := if l = 0 then fullShare.left else fullShare.right

variable (OF : Vec F S8x256x1024 .bf16)

/-- What device `d` hands over with its unit on device `c`'s entry barrier. -/
def barPay (c d : Dev nD) : sProp 𝕄 :=
  iprop((bigSep Finset.univ fun b : Fin 8 =>
      if Feeds c d b.val then iprop((∃ f : Vec F S8x256x1024 .bf16, blk d b fullShare f) ∗ reached ER (cell d (some (.rcv b))) 0) else iprop(emp))
    ∗ reached ER (cell d (some .xch)) 0)

/-- What device `d` hands over with its units on device `c`'s semaphore `k`. -/
def pay (c d : Dev nD) : Key → sProp 𝕄
  | none => barPay c d
  | some .xch => iprop(emp)
  | some (.snd l b) => blk c b (half l) OF
  | some (.rcv b) => blk c b fullShare OF

/-- The schedule: one round on every semaphore. -/
def Rd : Rounds.Schedule (GSem nD τ sig) (Dev nD) 𝕄 where
  duties g r := if r = 0 ∧ g.1.2 = .tc then (match key g.2 with | some k => Finset.univ.filter (fun d => Pays d g.1.1 k) | none => ∅) else ∅
  unitless _ := False
  amount g _ _ := match key g.2 with | some k => amt k | none => 1
  payload g _ d := match key g.2 with | some k => pay OF g.1.1 d k | none => iprop(emp)
  amount_pos g _ _ _ := by
    split
    · exact amt_pos _
    · exact Nat.one_pos

/-- What an entry signal hands over may be kept in an invariant. -/
instance barPay_storable (c d : Dev nD) : BI.Storable (upEmb : UEmb _ 𝕄) (barPay (F := F) c d) := by
  have (b : Fin 8) : BI.Storable (upEmb : UEmb _ 𝕄)
      (if Feeds c d b.val then iprop((∃ f : Vec F S8x256x1024 .bf16, blk d b fullShare f) ∗ reached ER (cell d (some (.rcv b))) 0) else iprop(emp)) := by
    split <;> infer_instance
  unfold barPay
  infer_instance

/-- What any signal hands over may be kept in an invariant. -/
instance Rd_storable (g : GSem nD τ sig) (r : ℕ) (d : Dev nD) : BI.Storable (upEmb : UEmb _ 𝕄) ((Rd OF).payload g r d) := by
  show BI.Storable upEmb (match key g.2 with | some k => pay OF g.1.1 d k | none => iprop(emp))
  unfold pay
  (repeat' split) <;> infer_instance

section Sched

variable (c : Dev nD) (k : Key)

/-- Those who signal a semaphore in its only round. -/
theorem duties_zero : (Rd OF).duties (cell c k) 0 = Finset.univ.filter fun d => Pays d c k := by
  show (if 0 = 0 ∧ (Proc.tc : Proc τ) = Proc.tc then (match key (sem k) with | some k => Finset.univ.filter (fun d => Pays d c k) | none => ∅) else ∅) = _
  rw [if_pos ⟨rfl, rfl⟩, key_sem]
/-- A device that pays a semaphore has a duty there. -/
theorem mem_duties {d : Dev nD} (h : Pays d c k) : d ∈ (Rd OF).duties (cell c k) 0 := by
  rw [duties_zero]; exact Finset.mem_filter.mpr ⟨Finset.mem_univ d, h⟩
/-- No semaphore has a second round. -/
theorem duties_later (g : GSem nD τ sig) : ∀ r, 1 ≤ r → (Rd OF).duties g r = ∅ := fun r hr => if_neg fun h => by omega
/-- The units of one signal. -/
theorem amount_eq (r : ℕ) (d : Dev nD) : (Rd OF).amount (cell c k) r d = amt k := by
  show (match key (sem k) with | some k => amt k | none => 1) = _
  rw [key_sem]
/-- What one signal hands over. -/
theorem payload_eq (r : ℕ) (d : Dev nD) : (Rd OF).payload (cell c k) r d = pay OF c d k := by
  show (match key (sem k) with | some k => pay OF c d k | none => iprop(emp)) = _
  rw [key_sem]
/-- The units that a semaphore receives in all. -/
theorem expect_eq : (Rd OF).expect (cell c k) 0 = (Finset.univ.filter fun d => Pays d c k).card * amt k := by
  unfold Schedule.expect Schedule.amountOf
  rw [duties_zero, Finset.sum_congr rfl fun d _ => amount_eq OF c k 0 d, Finset.sum_const, smul_eq_mul]
/-- What a waiter receives: what each of the payers hands over. -/
theorem rest_eq : bigSep ((Rd OF).duties (cell c k) 0 \ ∅) (fun d => (Rd OF).payload (cell c k) 0 d)
    = bigSep (Finset.univ.filter fun d => Pays d c k) (fun d => pay OF c d k) := by
  rw [Finset.sdiff_empty, duties_zero, bigSep_congr fun d _ => payload_eq OF c k 0 d]

end Sched

/-! ## What a device owes -/

/-- The units a device owes for the signals `S`. -/
def owe (S : Finset (Dev nD × Key)) : CellTallies nD τ sig Unit := ∑ x ∈ S, tallyAt (cell x.1 x.2) () (amt x.2)

/-- Owing a set of signals is owing one of them and the others. -/
theorem owe_take {S : Finset (Dev nD × Key)} {x : Dev nD × Key} (hx : x ∈ S) :
    owe S = owe (S.erase x) + tallyAt (cell x.1 x.2) () (amt x.2) := (Finset.sum_erase_add S _ hx).symm

/-- The units owed to one semaphore. -/
theorem owe_apply (S : Finset (Dev nD × Key)) (g : GSem nD τ sig) :
    owe S g () = ∑ x ∈ S, if g = cell x.1 x.2 then amt x.2 else 0 := by
  unfold owe
  rw [Finset.sum_apply, Finsupp.finset_sum_apply]
  refine Finset.sum_congr rfl fun x _ => ?_
  rw [tallyAt_apply]
  exact if_congr ⟨fun h => h.1, fun h => ⟨h, rfl⟩⟩ rfl rfl

/-- A semaphore that is owed anything is among those owed. -/
theorem owe_pos {S : Finset (Dev nD × Key)} {g : GSem nD τ sig} {u : Unit} (h : 0 < owe S g u) : ∃ x ∈ S, g = cell x.1 x.2 := by
  cases u
  rw [owe_apply] at h
  by_contra hn
  push Not at hn
  rw [Finset.sum_eq_zero fun x hx => if_neg (hn x hx)] at h
  exact absurd h (Nat.lt_irrefl 0)

/-- Only the main processor's semaphores have a level. -/
def L (g : GSem nD τ sig) : Finset Unit := if g.1.2 = .tc then {()} else ∅
/-- The level of a semaphore. -/
def lv (g : GSem nD τ sig) (_ : Unit) : ℕ := match key g.2 with | some k => lev g.1.1 k | none => 0

/-- Other processors' semaphores have no level. -/
theorem L_of_ne (g : GSem nD τ sig) (h : g.1.2 ≠ .tc) : L g = ∅ := if_neg h
/-- The main processor's semaphores have one level. -/
theorem L_tc (c : Dev nD) (s : SemLoc sig) : L ((c : Thread nD τ), s) = {()} := if_pos rfl
/-- The level of device `c`'s semaphore `k`. -/
theorem lv_cell (c : Dev nD) (k : Key) (u : Unit) : lv (cell c k) u = lev c k := by
  show (match key (sem k) with | some k => lev c k | none => 0) = _
  rw [key_sem]

/-- A device may wait on its semaphore `k` while all it owes lies above. -/
theorem mayWait (c : Dev nD) (k : Key) (S : Finset (Dev nD × Key)) (h : ∀ x ∈ S, lev c k < lev x.1 x.2) :
    (levAts L lv : sProp 𝕄) ⊢ MayWait (c : Thread nD τ) (sem k) () (owe S) :=
  MayOwe.of_cut (L := L) (lev := lv) (lev c k) (fun p hp => by rw [Finset.mem_singleton.mp hp, L_tc]; exact Finset.mem_singleton_self _)
    (fun g u hg => by
      obtain ⟨x, -, rfl⟩ := owe_pos hg
      rw [L_tc]; exact Finset.mem_singleton_self _)
    (fun p hp => by rw [Finset.mem_singleton.mp hp]; exact Nat.le_of_eq (lv_cell c k ()))
    (fun g u hg => by
      obtain ⟨x, hx, rfl⟩ := owe_pos hg
      rw [lv_cell]; exact h x hx)

/-- Device `c` still owes this signal after its first `n` blocks' transfers: a later arrival, or the exit barrier's. -/
def Later (c : Dev nD) (n : ℕ) (d : Dev nD) : Key → Prop
  | none => False
  | some .xch => Pays c d (some .xch)
  | some (.snd _ _) => False
  | some (.rcv b) => n ≤ b.val ∧ Pays c d (some (.rcv b))
instance (c : Dev nD) (n : ℕ) (d : Dev nD) : (k : Key) → Decidable (Later c n d k)
  | none => inferInstanceAs (Decidable False)
  | some .xch => inferInstanceAs (Decidable (Pays c d (some .xch)))
  | some (.snd _ _) => inferInstanceAs (Decidable False)
  | some (.rcv b) => inferInstanceAs (Decidable (n ≤ b.val ∧ Pays c d (some (.rcv b))))

/-- The signals a device still owes after its first `n` blocks' transfers. -/
def later (c : Dev nD) (n : ℕ) : Finset (Dev nD × Key) := Finset.univ.filter fun x => Later c n x.1 x.2

/-- The signals a device owes at the start: those, and the entry barrier's. -/
def atStart (c : Dev nD) : Finset (Dev nD × Key) := insert (nb1 c, none) (insert (nb2 c, none) (later c 0))

/-- What it means to be owed after `n` blocks. -/
theorem mem_later {c : Dev nD} {n : ℕ} {x : Dev nD × Key} : x ∈ later c n ↔ Later c n x.1 x.2 := by
  unfold later; rw [Finset.mem_filter]; exact ⟨fun h => h.2, fun h => ⟨Finset.mem_univ _, h⟩⟩

/-- After the entry signals a device owes what it owes before block 0. -/
theorem start_paid (c : Dev nD) : ((atStart c).erase (nb1 c, none)).erase (nb2 c, none) = later c 0 := by
  revert c; decide +kernel
/-- Device 0's two transfers of a block pay what it owes for that block. -/
theorem later_two (n : Fin 8) : ((later 0 n.val).erase (1, some (.rcv n))).erase (3, some (.rcv n)) = later 0 (n.val + 1) := by
  revert n; decide +kernel
/-- A passing device's transfer of a block pays what it owes for that block. -/
theorem later_one (c : Dev nD) (n : Fin 8) (hc : c ≠ 0) (h : Relays c n.val) : (later c n.val).erase (2, some (.rcv n)) = later c (n.val + 1) := by
  revert c n; decide +kernel
/-- A device that does not pass a block on owes nothing for it. -/
theorem later_none (c : Dev nD) (n : Fin 8) (hc : c ≠ 0) (h : ¬Relays c n.val) : later c n.val = later c (n.val + 1) := by
  revert c n; decide +kernel
/-- After the exit signals nothing is owed. -/
theorem later_end (c : Dev nD) : ((later c 8).erase (nb1 c, some .xch)).erase (nb2 c, some .xch) = ∅ := by
  revert c; decide +kernel

end Cert.KernelIdeal.Blocks

end
-- ==== Proof.Talk.lean ====
/- The steps of the protocol: a barrier, a transfer, the waits for an arrival and for a departure. -/
module

public import proofs.«01_k».proof.Proof.Proto

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (OF : Vec F S8x256x1024 .bf16) (κ : GSem nD τ sig → ℕ)

/-- Every semaphore's invariant. -/
def shared : sProp 𝕄 := bigSep Finset.univ fun x : Dev nD × Key => cellInv ER (Rd OF) (κ (cell x.1 x.2)) (cell x.1 x.2)
instance invs_persistent : BI.Persistent (shared OF κ) := by unfold shared; infer_instance

/-- The shared invariants hold each semaphore's. -/
theorem inv_at (c : Dev nD) (k : Key) : shared OF κ ⊢ cellInv ER (Rd OF) (κ (cell c k)) (cell c k) :=
  bigSep_elim (Finset.mem_univ (c, k))

/-! ## The barrier -/

/-- A device's two neighbours differ. -/
theorem nb_ne (c : Dev nD) : nb1 c ≠ nb2 c := by revert c; decide
/-- A device is a neighbour of its first neighbour. -/
theorem nb1_nb (c : Dev nD) : c = nb1 (nb1 c) ∨ c = nb2 (nb1 c) := by revert c; decide
/-- A device is a neighbour of its second neighbour. -/
theorem nb2_nb (c : Dev nD) : c = nb1 (nb2 c) ∨ c = nb2 (nb2 c) := by revert c; decide

set_option maxHeartbeats 1000000 in
/-- A barrier: one unit to each neighbour, with what is handed over; two units in, with what the neighbours hand over. -/
theorem wp_barrier (c : Dev nD) (k : Key) (s : Sem sig) (hs : sem k = .reg s) (hk : amt k = 1)
    (hp : ∀ d c' : Dev nD, Pays d c' k ↔ d = nb1 c' ∨ d = nb2 c') (S T : Finset (Dev nD × Key))
    (h1 : (nb1 c, k) ∈ S) (h2 : (nb2 c, k) ∈ S) (hT : (S.erase (nb1 c, k)).erase (nb2 c, k) = T)
    (hl : ∀ x ∈ T, lev c k < lev x.1 x.2) (W : Waits sig Unit) (Q : PUnit → sProp 𝕄) :
    iprop(shared OF κ ∗ levAts L lv ∗ owes (c : Thread nD τ) (owe S) W
        ∗ (dutyTok ER (cell (nb1 c) k) 0 c ∗ pay OF (nb1 c) c k ∗ reached ER (cell (nb1 c) k) 0)
        ∗ (dutyTok ER (cell (nb2 c) k) 0 c ∗ pay OF (nb2 c) c k ∗ reached ER (cell (nb2 c) k) 0)
        ∗ cred (tallyAt (cell c k) () 2) ∗ atPos ER (cell c k) 0 ∅ 0)
      ⊢ iprop(((∃ W, owes (c : Thread nD τ) (owe T) W) ∗ atPos ER (cell c k) 1 ∅ 0 ∗ pay OF c (nb1 c) k ∗ pay OF c (nb2 c) k -∗ Q ⟨⟩)
          -∗ wp frame (wpE (defs₀ (F := F)) 𝒱₀ c none) Set.univ (barrier c s) Q) := by
  have hcell (d : Dev nD) : cell d k = ((d : Thread nD τ), SemLoc.reg s) := congrArg (Prod.mk (d : Thread nD τ)) hs
  have hset : (Finset.univ.filter fun d => Pays d c k) = {nb1 c, nb2 c} := by
    ext d; rw [Finset.mem_filter, hp, Finset.mem_insert, Finset.mem_singleton]; exact ⟨fun h => h.2, fun h => ⟨Finset.mem_univ _, h⟩⟩
  have hexp : (Rd OF).expect (cell c k) 0 = 2 := by
    rw [expect_eq, hset, Finset.card_pair (nb_ne c), hk]
  have hrest : bigSep ((Rd OF).duties (cell c k) 0 \ ∅) (fun d => (Rd OF).payload (cell c k) 0 d) = iprop(pay OF c (nb1 c) k ∗ pay OF c (nb2 c) k) := by
    rw [rest_eq, hset, bigSep_insert (by rw [Finset.mem_singleton]; exact nb_ne c), bigSep_singleton]
    rfl
  have hmw := mayWait (F := F) c k T hl
  have e1 : owe S = owe (S.erase (nb1 c, k)) + tallyAt ((nb1 c : Thread nD τ), SemLoc.reg s) () 1 := by
    rw [← hcell, ← hk]; exact owe_take h1
  have e2 : owe (S.erase (nb1 c, k)) = owe T + tallyAt ((nb2 c : Thread nD τ), SemLoc.reg s) () 1 := by
    rw [← hcell, ← hk, ← hT]
    exact owe_take (x := (nb2 c, k)) (Finset.mem_erase.mpr ⟨fun h => nb_ne c (congrArg Prod.fst h).symm, h2⟩)
  have d1 : c ∈ (Rd OF).duties ((nb1 c : Thread nD τ), SemLoc.reg s) 0 := by rw [← hcell]; exact mem_duties OF _ _ ((hp _ _).mpr (nb1_nb c))
  have d2 : c ∈ (Rd OF).duties ((nb2 c : Thread nD τ), SemLoc.reg s) 0 := by rw [← hcell]; exact mem_duties OF _ _ ((hp _ _).mpr (nb2_nb c))
  have a1 : (Rd OF).amount ((nb1 c : Thread nD τ), SemLoc.reg s) 0 c = 1 := by rw [← hcell, amount_eq, hk]
  have a2 : (Rd OF).amount ((nb2 c : Thread nD τ), SemLoc.reg s) 0 c = 1 := by rw [← hcell, amount_eq, hk]
  have p1 : (Rd OF).payload ((nb1 c : Thread nD τ), SemLoc.reg s) 0 c = pay OF (nb1 c) c k := by rw [← hcell, payload_eq]
  have p2 : (Rd OF).payload ((nb2 c : Thread nD τ), SemLoc.reg s) 0 c = pay OF (nb2 c) c k := by rw [← hcell, payload_eq]
  have i1 := inv_at OF κ (nb1 c) k
  have i2 := inv_at OF κ (nb2 c) k
  have i3 := inv_at OF κ c k
  rw [hcell] at i1 i2 i3 hexp hrest
  rw [hs] at hmw
  rw [hcell, hcell, hcell]
  unfold barrier semSignalWord semWaitWord
  simp only [bind, Prog.bind_op, Prog.bind_ret]
  rw [show (1#32 : BitVec 32).toInt = ((1 : ℕ) : ℤ) from rfl, show (2#32 : BitVec 32).toInt = ((2 : ℕ) : ℤ) from rfl]
  iintro ⟨#HI, #HL, HO, ⟨Ht1, Hp1, #Hr1⟩, ⟨Ht2, Hp2, #Hr2⟩, Hc, Hat⟩ Hk
  iapply (Rounds.wp_signal 𝒱₀ ER (Rd OF) (c : Thread nD τ) none (dst := (nb1 c : Thread nD τ)) (sem := s) (r := 0) (d := c)
      (κ := κ ((nb1 c : Thread nD τ), SemLoc.reg s)) d1 a1 () (owe (S.erase (nb1 c, k))) e1) $$ [HO Ht1 Hp1]
  · isplitr; · iapply i1; iexact HI
    isplitl [HO]; · iexact HO
    isplitl [Ht1]; · iexact Ht1
    isplitl [Hp1]; · rw [p1]; iexact Hp1
    iexact Hr1
  iintro HO
  iapply (Rounds.wp_signal 𝒱₀ ER (Rd OF) (c : Thread nD τ) none (dst := (nb2 c : Thread nD τ)) (sem := s) (r := 0) (d := c)
      (κ := κ ((nb2 c : Thread nD τ), SemLoc.reg s)) d2 a2 () (owe T) e2) $$ [HO Ht2 Hp2]
  · isplitr; · iapply i2; iexact HI
    isplitl [HO]; · iexact HO
    isplitl [Ht2]; · iexact Ht2
    isplitl [Hp2]; · rw [p2]; iexact Hp2
    iexact Hr2
  iintro HO
  iapply (Rounds.wp_wait_rest_token 𝒱₀ ER (Rd OF) (c : Thread nD τ) none (κ := κ ((c : Thread nD τ), SemLoc.reg s))
      (wpE_semWait_eq 𝒱₀ (c : Thread nD τ) none Set.univ) (Set.mem_univ _) () (O := owe T) (W := W) (R := 0) (m := 0) (T := ∅)
      ((Nat.zero_add 2).trans hexp.symm)) $$ [Hc HO Hat]
  · isplitr; · iapply i3; iexact HI
    isplitl [Hc]; · iexact Hc
    isplitl [HO]; · iexact HO
    isplitr; · iapply hmw; iexact HL
    iexact Hat
  iintro ⟨HO, Hat, -, Hpay⟩
  ihave Hp := (Entails.of_eq hrest) $$ Hpay
  icases Hp with ⟨Hp1, Hp2⟩
  rw [wp_ret]
  imodintro
  iapply Hk
  isplitl [HO]; · iexists _; iexact HO
  isplitl [Hat]; · iexact Hat
  isplitl [Hp1] <;> iassumption

/-! ## A transfer and the waits -/

/-- The elements of block `b` of the outgoing buffer. -/
theorem set_oM (b : ℕ) (hb : b < 8) : (oM A7 b hb).view.set = (rO b hb).set := by
  show ((View.whole cc0_scratch1).slice (rO b hb) |>.reshape S256x1024 _).set = _
  rw [View.set_reshape, View.set_slice_whole]

/-- What lands is what was read. -/
theorem landed (b : ℕ) (hb : b < 8) (fd fs : Vec F S8x256x1024 .bf16) :
    ∀ i ∈ (oM A7 b hb).view.set, (oM A7 b hb).view.write (Elt F) fd ((oM A7 b hb).view.read (Elt F) fs) Finset.univ i = fs i := by
  intro i hi
  obtain ⟨x, -, rfl⟩ := Finset.mem_map.mp hi
  exact (View.write_emb_of_mem (v := (oM A7 b hb).view) fd ((oM A7 b hb).view.read (Elt F) fs) (Finset.mem_univ x)).trans
    ((congrArg _ (View.read_apply (v := (oM A7 b hb).view) fs x)).trans (by simp only [cast_cast, cast_eq]))

/-- The departure semaphore of a link and block. -/
theorem sem_snd (l : Fin 2) (b : Fin 8) : sem (some (.snd l b)) = .dma (sS cc0_scratch2 l.val b.val l.isLt b.isLt) := rfl
/-- The arrival semaphore of a block. -/
theorem sem_rcv (b : Fin 8) : sem (some (.rcv b)) = .dma (sR cc0_scratch3 b.val b.isLt) := rfl

set_option maxHeartbeats 1000000 in
/-- The transfer of block `b` over link `l`: the source's share comes back at the departure, the result's block arrives. -/
theorem wp_send (c d : Dev nD) (l : Fin 2) (b : Fin 8) (S : Finset (Dev nD × Key)) (h1 : Sends c l b.val) (h2 : Feeds c d b.val)
    (hS : (d, some (.rcv b)) ∈ S) (W : Waits sig Unit) (Q : PUnit → sProp 𝕄) :
    iprop(shared OF κ ∗ blk c b (half l) OF ∗ (∃ f : Vec F S8x256x1024 .bf16, blk d b fullShare f) ∗ owes (c : Thread nD τ) (owe S) W
        ∗ (dutyTok ER (cell c (some (.snd l b))) 0 c ∗ reached ER (cell c (some (.snd l b))) 0)
        ∗ (dutyTok ER (cell d (some (.rcv b))) 0 c ∗ reached ER (cell d (some (.rcv b))) 0))
      ⊢ iprop((cred (tallyAt (cell c (some (.snd l b))) () N) ∗ owes (c : Thread nD τ) (owe (S.erase (d, some (.rcv b)))) W -∗ Q ⟨⟩)
          -∗ wp frame (wpE (defs₀ (F := F)) 𝒱₀ c none) Set.univ
            (send A7 (Memref.isWhole_whole _) cc0_scratch2 cc0_scratch3 d l.val b.val l.isLt b.isLt) Q) := by
  unfold send
  simp only [Prog.lift]
  iintro ⟨#HI, Hs, ⟨%fd, Hd⟩, HO, ⟨Ht1, #Hr1⟩, ⟨Ht2, #Hr2⟩⟩ Hk
  iapply (Rounds.wp_send_pointsTo 𝒱₀ ER (Rd OF) (c : Thread nD τ) none (c' := (d : Thread nD τ)) (src := oM A7 b.val b.isLt) (dst := oM A7 b.val b.isLt)
      (sS := sem (some (.snd l b))) (sem := sem (some (.rcv b))) (q := half l) (fs := OF) (κ₁ := κ (cell c (some (.snd l b)))) (κ₂ := κ (cell d (some (.rcv b))))
      (r₁ := 0) (r₂ := 0) (d₁ := c) (d₂ := c) (fd := fd)
      (mem_duties OF c (some (.snd l b)) ⟨rfl, h1⟩) (mem_duties OF d (some (.rcv b)) h2)
      () () N rfl (amount_eq OF c (some (.snd l b)) 0 c) (amount_eq OF d (some (.rcv b)) 0 c) (owe (S.erase (d, some (.rcv b)))) (owe_take hS) (W := W)
      (by rw [payload_eq]; exact BI.Entails.refl _)
      (by rw [payload_eq]; exact Entails.of_eq (pointsTo_congr (landed b.val b.isLt fd OF)))) $$ [Hs Hd HO Ht1 Ht2]
  · isplitr; · iapply (inv_at OF κ c (some (.snd l b))); iexact HI
    isplitr; · iapply (inv_at OF κ d (some (.rcv b))); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro H
  rw [wp_ret]
  imodintro
  iapply Hk
  iexact H

/-- A wait on one of the transfers' semaphores, all its payers being one device: what it hands over. -/
theorem wp_await (c d : Dev nD) (b : Fin 8) (k : Key) (s : DmaSem sig) (hs : sem k = .dma s) (hk : amt k = N)
    (hd : (Finset.univ.filter fun d => Pays d c k) = {d}) (S : Finset (Dev nD × Key)) (hl : ∀ x ∈ S, lev c k < lev x.1 x.2)
    {h1 h2 : (oM A7 b.val b.isLt).view.WordExact} (W : Waits sig Unit) (Q : PUnit → sProp 𝕄) :
    iprop(shared OF κ ∗ levAts L lv ∗ owes (c : Thread nD τ) (owe S) W ∗ cred (tallyAt (cell c k) () N) ∗ atPos ER (cell c k) 0 ∅ 0)
      ⊢ iprop(((∃ W, owes (c : Thread nD τ) (owe S) W) ∗ atPos ER (cell c k) 1 ∅ 0 ∗ pay OF c d k -∗ Q ⟨⟩)
          -∗ wp frame (wpE (defs₀ (F := F)) 𝒱₀ c none) Set.univ
            (Prog.lift (.waitDma2 s (oM A7 b.val b.isLt) (oM A7 b.val b.isLt) h1 h2)) Q) := by
  have hcell : cell c k = ((c : Thread nD τ), SemLoc.dma s) := congrArg (Prod.mk (c : Thread nD τ)) hs
  have hexp : (Rd OF).expect (cell c k) 0 = N := by rw [expect_eq, hd, Finset.card_singleton, hk, Nat.one_mul]
  have hrest := rest_eq OF c k
  rw [hd, bigSep_singleton] at hrest
  have hmw := mayWait (F := F) c k S hl
  have i := inv_at OF κ c k
  rw [hcell] at i hexp hrest
  rw [hs] at hmw
  rw [hcell]
  simp only [Prog.lift]
  iintro ⟨#HI, #HL, HO, Hc, Hat⟩ Hk
  iapply (Rounds.wp_wait_rest_token 𝒱₀ ER (Rd OF) (c : Thread nD τ) none (κ := κ ((c : Thread nD τ), SemLoc.dma s))
      (wpE_waitDma2_eq 𝒱₀ (c : Thread nD τ) none Set.univ (src := oM A7 b.val b.isLt) (dst := oM A7 b.val b.isLt) (hsrc := h1) (hdst := h2)) (Set.mem_univ _) () (O := owe S) (W := W) (R := 0) (m := 0) (T := ∅)
      ((Nat.zero_add N).trans hexp.symm)) $$ [Hc HO Hat]
  · isplitr; · iapply i; iexact HI
    isplitl [Hc]; · iexact Hc
    isplitl [HO]; · iexact HO
    isplitr; · iapply hmw; iexact HL
    iexact Hat
  iintro ⟨HO, Hat, -, Hpay⟩
  ihave Hp := (Entails.of_eq hrest) $$ Hpay
  rw [wp_ret]
  imodintro
  iapply Hk
  isplitl [HO]; · iexists _; iexact HO
  isplitl [Hat]; · iexact Hat
  iexact Hp

/-- A departure semaphore in use is paid by its own device alone. -/
theorem payer_snd (c : Dev nD) (l : Fin 2) (b : Fin 8) (h : Sends c l b.val) : (Finset.univ.filter fun d => Pays d c (some (.snd l b))) = {c} := by
  revert c l b; decide +kernel
/-- Who feeds block `b` to device `c`. -/
def feeder (c : Dev nD) (b : ℕ) : Dev nD := if c = 2 then (if b % 2 = 0 then 1 else 3) else 0
/-- An arrival semaphore is paid by the device that feeds the block, alone. -/
theorem payer_rcv (c : Dev nD) (b : Fin 8) (h : c ≠ 0) : (Finset.univ.filter fun d => Pays d c (some (.rcv b))) = {feeder c b.val} := by
  revert c b; decide +kernel

/-- The wait for the arrival of block `b`. -/
theorem wp_waitR (c : Dev nD) (b : Fin 8) (h : c ≠ 0) (S : Finset (Dev nD × Key)) (hl : ∀ x ∈ S, lev c (some (.rcv b)) < lev x.1 x.2)
    (W : Waits sig Unit) (Q : PUnit → sProp 𝕄) :
    iprop(shared OF κ ∗ levAts L lv ∗ owes (c : Thread nD τ) (owe S) W ∗ cred (tallyAt (cell c (some (.rcv b))) () N) ∗ atPos ER (cell c (some (.rcv b))) 0 ∅ 0)
      ⊢ iprop(((∃ W, owes (c : Thread nD τ) (owe S) W) ∗ atPos ER (cell c (some (.rcv b))) 1 ∅ 0 ∗ blk c b fullShare OF -∗ Q ⟨⟩)
          -∗ wp frame (wpE (defs₀ (F := F)) 𝒱₀ c none) Set.univ (waitR A7 (Memref.isWhole_whole _) cc0_scratch3 b.val b.isLt) Q) :=
  wp_await OF κ c (feeder c b.val) b (some (.rcv b)) _ rfl rfl (payer_rcv c b h) S hl W Q

/-- The wait for the departure of block `b` over link `l`. -/
theorem wp_waitS (c : Dev nD) (l : Fin 2) (b : Fin 8) (h : Sends c l b.val) (S : Finset (Dev nD × Key)) (hl : ∀ x ∈ S, 0 < lev x.1 x.2)
    (W : Waits sig Unit) (Q : PUnit → sProp 𝕄) :
    iprop(shared OF κ ∗ levAts L lv ∗ owes (c : Thread nD τ) (owe S) W ∗ cred (tallyAt (cell c (some (.snd l b))) () N) ∗ atPos ER (cell c (some (.snd l b))) 0 ∅ 0)
      ⊢ iprop(((∃ W, owes (c : Thread nD τ) (owe S) W) ∗ atPos ER (cell c (some (.snd l b))) 1 ∅ 0 ∗ blk c b (half l) OF -∗ Q ⟨⟩)
          -∗ wp frame (wpE (defs₀ (F := F)) 𝒱₀ c none) Set.univ (waitS A7 (Memref.isWhole_whole _) cc0_scratch2 l.val b.val l.isLt b.isLt) Q) :=
  wp_await OF κ c c b (some (.snd l b)) _ rfl rfl (payer_snd c l b h) S hl W Q

end Cert.KernelIdeal.Blocks

end
-- ==== Proof.Rows.lean ====
/- The blocks of the outgoing buffer and of the result: where they lie, what is stored there, and the bookkeeping of a loop over the blocks. -/
module

public import proofs.«01_k».proof.Proof.Talk
public import Idealize.ShloMosaic.Lib.Pipeline.Value

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A loop over the blocks -/

/-- The first `n` blocks' resources in one state, the others' in another. -/
def upTo (T D : Fin 8 → sProp 𝕄) (n : ℕ) : sProp 𝕄 := bigSep Finset.univ fun b : Fin 8 => if b.val < n then D b else T b

/-- Before the first block all blocks are to do. -/
theorem upTo_zero (T D : Fin 8 → sProp 𝕄) : upTo T D 0 = bigSep Finset.univ T :=
  bigSep_congr fun b _ => if_neg (Nat.not_lt_zero _)
/-- After the last block all blocks are done. -/
theorem upTo_all (T D : Fin 8 → sProp 𝕄) : upTo T D 8 = bigSep Finset.univ D :=
  bigSep_congr fun b _ => if_pos b.isLt

/-- Block `n` may be taken out to do and put back done. -/
theorem upTo_step (T D : Fin 8 → sProp 𝕄) (n : ℕ) (hn : n < 8) :
    upTo T D n ⊢ iprop(T ⟨n, hn⟩ ∗ (D ⟨n, hn⟩ -∗ upTo T D (n + 1))) := by
  unfold upTo
  rw [bigSep_univ_at (fun b : Fin 8 => if b.val < n then D b else T b) ⟨n, hn⟩,
    bigSep_univ_at (fun b : Fin 8 => if b.val < n + 1 then D b else T b) ⟨n, hn⟩,
    bigSep_congr (s := Finset.univ.erase (⟨n, hn⟩ : Fin 8)) (Ψ := fun b : Fin 8 => if b.val < n then D b else T b)
      (Φ := fun b : Fin 8 => if b.val < n + 1 then D b else T b) fun b hb => by
        have hne : b.val ≠ n := fun h => Finset.ne_of_mem_erase hb (Fin.ext h)
        exact if_congr ⟨fun h => by omega, fun h => by omega⟩ rfl rfl]
  dsimp only
  rw [if_neg (Nat.lt_irrefl n), if_pos (Nat.lt_succ_self n)]
  iintro ⟨HT, HR⟩
  isplitl [HT]; · iexact HT
  iintro HD
  isplitl [HD] <;> iassumption

/-! ## The values -/

section Values

variable (fX : Vec F S2048x1024 .bf16) (fQ : Vec F S1024x1024 .bf16) (fK fV : Vec F S8x2048x128 .bf16) (fO : Vec F S1024x1024 .bf16)

/-- An index of a block with a unit axis starts with zero. -/
theorem ix3_row (x : S1x256x1024.Idx) : ix3 (0 : Fin 1) (x 1) (x 2) = x := by
  funext a
  match a with
  | ⟨0, _⟩ => exact (Fin.eq_zero (x 0)).symm
  | ⟨1, _⟩ => rfl
  | ⟨2, _⟩ => rfl

/-- Block `b` of the outgoing buffer's final contents. -/
theorem oAll_emb (b : ℕ) (hb : b < 8) (x : S1x256x1024.Idx) :
    oAll fX fQ fK fV fO ((rO b hb).emb x) = oB fX fQ fK fV fO b hb x := by
  have h0 : (x 0).val = 0 := congrArg Fin.val (Fin.eq_zero (x 0))
  have e0 : ((rO b hb).emb x 0).val = b := by show b + 1 * (x 0).val = b; omega
  have e1 : (rO b hb).emb x 1 = x 1 := Fin.ext (by show 0 + 1 * (x 1).val = (x 1).val; omega)
  have e2 : (rO b hb).emb x 2 = x 2 := Fin.ext (by show 0 + 1 * (x 2).val = (x 2).val; omega)
  have key (b' : ℕ) (hb' : b' < 8) (e : b' = b) (p : Fin 256) (q : Fin 1024) (ep : p = x 1) (eq : q = x 2) :
      oB fX fQ fK fV fO b' hb' (ix3 (0 : Fin 1) p q) = oB fX fQ fK fV fO b hb x := by
    subst e; subst ep; subst eq; exact congrArg _ (ix3_row x)
  exact key _ _ e0 _ _ e1 e2

/-- The rows of block `b` of the result. -/
theorem rAll_emb (b : ℕ) (hb : b < 8) (x : S1x256x1024.Idx) :
    rAll fX fQ fK fV fO ((rR b hb).emb x) = oB fX fQ fK fV fO b hb x := by
  have h1 : (x 1).val < 256 := (x 1).isLt
  have v1 : ((rR b hb).emb x 1).val = 256 * b + (x 1).val := by show 256 * b + 1 * (x 1).val = _; omega
  have e0 : ((rR b hb).emb x 1).val / 256 = b := by omega
  have e2 : (rR b hb).emb x 2 = x 2 := Fin.ext (by show 0 + 1 * (x 2).val = (x 2).val; omega)
  have key (b' : ℕ) (hb' : b' < 8) (e : b' = b) (p : Fin 256) (q : Fin 1024) (ep : p = x 1) (eq : q = x 2) :
      oB fX fQ fK fV fO b' hb' (ix3 (0 : Fin 1) p q) = oB fX fQ fK fV fO b hb x := by
    subst e; subst ep; subst eq; exact congrArg _ (ix3_row x)
  exact key _ _ e0 _ _ (Fin.ext (by show ((rR b hb).emb x 1).val % 256 = (x 1).val; omega)) e2

/-- The result's first `n` blocks of rows are there. -/
def Rows (n : ℕ) (f : Vec F S1x2048x1024 .bf16) : Prop :=
  ∀ i : S1x2048x1024.Idx, (i 1).val < 256 * n → f i = rAll fX fQ fK fV fO i

/-- Any contents have their first zero blocks right. -/
theorem rows_zero (f : Vec F S1x2048x1024 .bf16) : Rows fX fQ fK fV fO 0 f := fun i h => absurd h (by omega)
/-- Contents with all eight blocks right are the result. -/
theorem rows_all {f : Vec F S1x2048x1024 .bf16} (h : Rows fX fQ fK fV fO 8 f) : f = rAll fX fQ fK fV fO :=
  funext fun i => h i (by have : (i 1).val < 2048 := (i 1).isLt; omega)

/-- Writing block `b` makes one more block right. -/
theorem rows_step {b : ℕ} {hb : b < 8} {f : Vec F S1x2048x1024 .bf16} (h : Rows fX fQ fK fV fO b f) :
    Rows fX fQ fK fV fO (b + 1)
      (((Memref.whole cc0_stg5_0).access (rR b hb)).write (Elt F) f (oB fX fQ fK fV fO b hb) Finset.univ) := by
  intro i hi
  have h0 : (i 0).val = 0 := congrArg Fin.val (Fin.eq_zero (i 0 : Fin 1))
  by_cases hb1 : 256 * b ≤ (i 1).val
  · have hx : i = (rR b hb).emb (ix3 (0 : Fin 1) ⟨(i 1).val - 256 * b, by omega⟩ (i 2)) := by
      funext a; refine Fin.ext ?_
      match a with
      | ⟨0, _⟩ => exact h0
      | ⟨1, _⟩ => show (i 1).val = 256 * b + 1 * ((i 1).val - 256 * b); omega
      | ⟨2, _⟩ => show (i 2).val = 0 + 1 * (i 2).val; omega
    rw [hx, write_in, rAll_emb]
  · rw [write_out _ _ _ _ (fun hm => ?_), h i (by omega)]
    obtain ⟨j, hj, e⟩ := (LoadRect.mem_set _).mp hm 1
    have e' : (i 1).val = 256 * b + 1 * j := e
    omega

/-- Stored into its block of the outgoing buffer, block `b` of the result is there. -/
theorem out_written (b : ℕ) (hb : b < 8) (f : Vec F S8x256x1024 .bf16) : ∀ i ∈ (oM A7 b hb).view.set,
    ((Memref.whole cc0_scratch1).access (rO b hb)).write (Elt F) f (oB fX fQ fK fV fO b hb) Finset.univ i = oAll fX fQ fK fV fO i := by
  intro i hi
  rw [set_oM] at hi
  rw [← Rect.map_emb_univ] at hi
  obtain ⟨x, -, rfl⟩ := Finset.mem_map.mp hi
  rw [oAll_emb]
  exact write_in cc0_scratch1 (rO b hb) f (oB fX fQ fK fV fO b hb) x

/-- A block read from the outgoing buffer is that block of the result. -/
theorem out_read (b : ℕ) (hb : b < 8) : payR (part (rO b hb) (oAll fX fQ fK fV fO)) = oB fX fQ fK fV fO b hb := by
  unfold payR payO
  rw [shapeCast_shapeCast]
  funext x
  exact oAll_emb fX fQ fK fV fO b hb x

end Values

/-! ## The outgoing buffer block by block -/

/-- The part of the outgoing buffer that a transfer of block `b` takes. -/
theorem set_block (c : Dev nD) (b : Fin 8) : (oM A7 b.val b.isLt).view.set = (rO b.val b.isLt).set := set_oM b.val b.isLt

/-- Different blocks do not meet. -/
theorem blocks_disjoint (b b' : Fin 8) (h : b ≠ b') : Disjoint (rO b.val b.isLt).set (rO b'.val b'.isLt).set := by
  rw [Finset.disjoint_left]
  intro i hi hi'
  obtain ⟨j, hj, e⟩ := (LoadRect.mem_set _).mp hi 0
  obtain ⟨j', hj', e'⟩ := (LoadRect.mem_set _).mp hi' 0
  have a : (i 0).val = b.val + 1 * j := e
  have a' : (i 0).val = b'.val + 1 * j' := e'
  have p : j < 1 := hj
  have p' : j' < 1 := hj'
  exact h (Fin.ext (by omega))

/-- The blocks make up the outgoing buffer. -/
theorem blocks_cover : (Finset.univ : Finset (Fin 8)).biUnion (fun b => (rO b.val b.isLt).set) = Finset.univ := by
  refine Finset.eq_univ_of_forall fun i => Finset.mem_biUnion.mpr ⟨i 0, Finset.mem_univ _, ?_⟩
  rw [← Rect.map_emb_univ]
  refine Finset.mem_map.mpr ⟨ix3 (0 : Fin 1) (i 1) (i 2), Finset.mem_univ _, ?_⟩
  funext a; refine Fin.ext ?_
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

/-- The outgoing buffer is its eight blocks. -/
theorem out_split (c : Dev nD) (f : Vec F S8x256x1024 .bf16) :
    (pt c cc0_scratch1 f : sProp 𝕄) = bigSep Finset.univ fun b : Fin 8 => blk c b fullShare f := by
  unfold pt
  rw [Ring.pointsTo_blocks (ℓ := (c : Thread nD τ).loc cc0_scratch1) (fun b : Fin 8 => (rO b.val b.isLt).set) blocks_disjoint blocks_cover f]
  exact bigSep_congr fun b _ => by
    show _ = ((c : Thread nD τ).loc cc0_scratch1 ↦[(oM A7 b.val b.isLt).view.set]{fullShare} f : sProp 𝕄)
    rw [set_oM]

/-- A block is two half shares of it. -/
theorem blk_halves (c : Dev nD) (b : Fin 8) (f : Vec F S8x256x1024 .bf16) :
    (blk c b fullShare f : sProp 𝕄) = iprop(blk c b (half 0) f ∗ blk c b (half 1) f) := by
  have e0 : half 0 = fullShare.left := if_pos rfl
  have e1 : half 1 = fullShare.right := if_neg (by decide)
  rw [e0, e1]
  exact BI.Entails.antisymm (pointsTo_share (PosShare.mem_left_op_right fullShare)).1 (pointsTo_share (PosShare.mem_left_op_right fullShare)).2

end Cert.KernelIdeal.Blocks

end
-- ==== Proof.Body.lean ====
/- One device's work between the barriers: device 0's blocks and its waits, a receiver's blocks and its waits. -/
module

public import proofs.«01_k».proof.Proof.Rows

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (fX : Vec F S2048x1024 .bf16) (fQ : Vec F S1024x1024 .bf16) (fK fV : Vec F S8x2048x128 .bf16) (fO : Vec F S1024x1024 .bf16)
variable (κ : GSem nD τ sig → ℕ)

/-! ## What each device holds at a block -/

/-- The token of device `d`'s payment on a semaphore, with the semaphore ready. -/
abbrev tok (c : Dev nD) (k : Key) (d : Dev nD) : sProp 𝕄 := iprop(dutyTok ER (cell c k) 0 d ∗ reached ER (cell c k) 0)
/-- Block `b` of device `c`'s outgoing buffer, at any contents. -/
abbrev free (c : Dev nD) (b : Fin 8) : sProp 𝕄 := iprop(∃ f : Vec F S8x256x1024 .bf16, blk c b fullShare f)

/-- Device 0 before its block `b`: the block of its buffer, the tokens of the two transfers, the two blocks they write. -/
def T0 (b : Fin 8) : sProp 𝕄 :=
  iprop(free 0 b ∗ tok 0 (some (.snd 0 b)) 0 ∗ tok 0 (some (.snd 1 b)) 0 ∗ tok 1 (some (.rcv b)) 0 ∗ tok 3 (some (.rcv b)) 0 ∗ free 1 b ∗ free 3 b)
/-- After it: the departures' units to come. -/
def D0 (b : Fin 8) : sProp 𝕄 := iprop(cred (tallyAt (cell 0 (some (.snd 0 b))) () N) ∗ cred (tallyAt (cell 0 (some (.snd 1 b))) () N))
/-- A semaphore with no round left: it may be closed. -/
def spent (OF : Vec F S8x256x1024 .bf16) (c : Dev nD) (k : Key) : sProp 𝕄 :=
  iprop(∃ R, ⌜∀ r, R ≤ r → (Rd OF).duties (cell c k) r = ∅⌝ ∗ atPos ER (cell c k) R ∅ 0)
/-- A device's own semaphores of block `b` at their first round; -/
def ats (c : Dev nD) (b : Fin 8) : sProp 𝕄 :=
  iprop(atPos ER (cell c (some (.snd 0 b))) 0 ∅ 0 ∗ atPos ER (cell c (some (.snd 1 b))) 0 ∅ 0)
/-- and at the end, with the block of the outgoing buffer back, holding the result's. -/
def done (OF : Vec F S8x256x1024 .bf16) (c : Dev nD) (b : Fin 8) : sProp 𝕄 :=
  iprop(blk c b fullShare OF ∗ spent OF c (some (.snd 0 b)) ∗ spent OF c (some (.snd 1 b)) ∗ spent OF c (some (.rcv b)))

/-- A receiver before its block `b`: the arrival's units to come, its position, and if it passes the block on, the transfer's tokens and the block it
    writes. -/
def T1 (c : Dev nD) (b : Fin 8) : sProp 𝕄 :=
  iprop(cred (tallyAt (cell c (some (.rcv b))) () N) ∗ atPos ER (cell c (some (.rcv b))) 0 ∅ 0
    ∗ if Relays c b.val then iprop(tok c (some (.snd 0 b)) c ∗ tok 2 (some (.rcv b)) c ∗ free 2 b) else iprop(emp))
/-- After it: the block's arrival is over; the block is there, but for the share a transfer still reads. -/
def D1 (OF : Vec F S8x256x1024 .bf16) (c : Dev nD) (b : Fin 8) : sProp 𝕄 :=
  iprop(spent OF c (some (.rcv b))
    ∗ if Relays c b.val then iprop(cred (tallyAt (cell c (some (.snd 0 b))) () N) ∗ blk c b (half 1) OF) else blk c b fullShare OF)

/-- The result's rows so far, on device `c`. -/
def outRows (c : Dev nD) (n : ℕ) : sProp 𝕄 := iprop(∃ r : Vec F S1x2048x1024 .bf16, ⌜Rows fX fQ fK fV fO n r⌝ ∗ pt c cc0_stg5_0 r)
/-- What a device owes, whatever it waited for. -/
def owing (c : Dev nD) (S : Finset (Dev nD × Key)) : sProp 𝕄 := iprop(∃ W, owes (c : Thread nD τ) (owe S) W)

/-- Device 0 after its first `n` blocks. -/
def hold0 (n : ℕ) : sProp 𝕄 :=
  iprop((pt 0 cc0_stg0_0 fX ∗ pt 0 cc0_stg1_0 fQ ∗ pt 0 cc0_stg2_0 fK ∗ pt 0 cc0_stg3_0 fV ∗ pt 0 cc0_stg4_0 fO)
    ∗ outRows fX fQ fK fV fO 0 n ∗ (∃ s : Vec F S2048x1024 .bf16, pt 0 cc0_scratch0 s) ∗ owing 0 (later 0 n))

/-- A read of block `b` stays in the part that a transfer of it takes. -/
theorem sub_oM (b : ℕ) (hb : b < 8) : ((A7 : Memref sig .tc .vmem S8x256x1024 .bf16).access (rO b hb)).set ⊆ (oM A7 b hb).view.set := by
  rw [set_oM]; exact (View.set_slice_whole cc0_scratch1 (rO b hb)).le
/-- A write of block `b` stays in the part that a transfer of it takes. -/
theorem sub_oM' (b : ℕ) (hb : b < 8) :
    ((A7 : Memref sig .tc .vmem S8x256x1024 .bf16).access (rO b hb)).setOn Finset.univ ⊆ (oM A7 b hb).view.set := by
  rw [View.setOn_univ]; exact sub_oM b hb

/-- Before block `b` device 0 owes both of its transfers. -/
theorem in_later0 (b : Fin 8) : (1, some (.rcv b)) ∈ later 0 b.val ∧ (3, some (.rcv b)) ∈ (later 0 b.val).erase (1, some (.rcv b)) := by
  revert b; decide +kernel

/-- Once stored, block `b` of the outgoing buffer holds block `b` of the result. -/
theorem out_blk (c : Dev nD) (b : Fin 8) (f7 : Vec F S8x256x1024 .bf16) (w : Vec F S1x256x1024 .bf16) (hw : w = oB fX fQ fK fV fO b.val b.isLt) :
    (View.loc (c : Thread nD τ) (A7.access (rO b.val b.isLt)) ↦[(oM A7 b.val b.isLt).view.set]{fullShare}
      View.write (Elt F) (A7.access (rO b.val b.isLt)) f7 w Finset.univ : sProp 𝕄) ⊢ blk c b fullShare (oAll fX fQ fK fV fO) := by
  subst hw
  exact Entails.of_eq (pointsTo_congr (out_written fX fQ fK fV fO b.val b.isLt f7))

set_option maxHeartbeats 2000000 in
/-- Device 0's work on one block. -/
theorem wp_block (b : Fin 8) (Q : PUnit → sProp 𝕄) :
    iprop(shared (oAll fX fQ fK fV fO) κ ∗ hold0 fX fQ fK fV fO b.val ∗ T0 b)
      ⊢ iprop((hold0 fX fQ fK fV fO (b.val + 1) ∗ D0 b -∗ Q ⟨⟩)
        -∗ wp frame (wpE (defs₀ (F := F)) 𝒱₀ ((0 : Dev nD) : Thread nD τ) none) Set.univ
          (block A0 A1 A2 A3 A4 A5 (Memref.isWhole_whole _) A6 (Memref.isWhole_whole _) A7 (Memref.isWhole_whole _) cc0_scratch2 cc0_scratch3 b.val b.isLt) Q) := by
  unfold block hold0 T0 outRows owing
  iintro ⟨#HI, ⟨⟨HX, HQ, HK, HV, HO⟩, ⟨%r, %hr, HR⟩, ⟨%s, HC⟩, ⟨%W, Hw⟩⟩, ⟨⟨%f7, H7⟩, Ts0, Ts1, Tr1, Tr3, F1, F3⟩⟩ Hk
  simp only [Prog.lift, Prog.bind_op, Prog.bind_ret]
  iapply (wp_load_rect 𝒱₀ ((0 : Dev nD) : Thread nD τ) none Set.univ (m := A0) (r := rX b.val b.isLt) (S := Finset.univ) (q := fullShare) (f := fX) (Finset.subset_univ _)) $$ HX
  iintro HX
  iapply (wp_load_rect 𝒱₀ ((0 : Dev nD) : Thread nD τ) none Set.univ (m := A1) (r := rW) (S := Finset.univ) (q := fullShare) (f := fQ) (Finset.subset_univ _)) $$ HQ
  iintro HQ
  iapply (wp_load_rect 𝒱₀ ((0 : Dev nD) : Thread nD τ) none Set.univ (m := A6) (r := rX b.val b.isLt) (S := Finset.univ) (q := fullShare) (f := s) (Finset.subset_univ _)) $$ HC
  iintro HC
  iapply (wp_store 𝒱₀ ((0 : Dev nD) : Thread nD τ) none Set.univ (m := A6) (r := rX b.val b.isLt) (Mk := Finset.univ) (S := Finset.univ) (f := s) (Finset.subset_univ _)) $$ HC
  iintro HC
  simp only [Prog.bind_op, Prog.bind_ret]
  rw [wp_bind]
  iapply (wp_heads 0 b.val b.isLt fX fQ fK fV 8 (le_refl 8) _ _ (done_zero s)) $$ [HK HV HC]
  · isplitl [HK]; · iexact HK
    isplitl [HV]; · iexact HV
    iexact HC
  iintro ⟨HK, HV, ⟨%f', %hf', HC⟩⟩
  have hv : payO (proj (View.read (Elt F) (A6.access (rX b.val b.isLt)) f') (View.read (Elt F) (A4.access rW) fO)) = oB fX fQ fK fV fO b.val b.isLt := by
    show payO (proj (part (rX b.val b.isLt) f') (part rW fO)) = _
    rw [done_all hf']; rfl
  iapply (wp_load_rect 𝒱₀ ((0 : Dev nD) : Thread nD τ) none Set.univ (m := A6) (r := rX b.val b.isLt) (S := Finset.univ) (q := fullShare) (f := f') (Finset.subset_univ _)) $$ HC
  iintro HC
  iapply (wp_load_rect 𝒱₀ ((0 : Dev nD) : Thread nD τ) none Set.univ (m := A4) (r := rW) (S := Finset.univ) (q := fullShare) (f := fO) (Finset.subset_univ _)) $$ HO
  iintro HO
  iapply (wp_load_rect 𝒱₀ ((0 : Dev nD) : Thread nD τ) none Set.univ (m := A7) (r := rO b.val b.isLt) (S := (oM A7 b.val b.isLt).view.set) (q := fullShare) (f := f7) (sub_oM b.val b.isLt)) $$ H7
  iintro H7
  iapply (wp_store 𝒱₀ ((0 : Dev nD) : Thread nD τ) none Set.univ (m := A7) (r := rO b.val b.isLt) (Mk := Finset.univ) (S := (oM A7 b.val b.isLt).view.set) (f := f7) (sub_oM' b.val b.isLt)) $$ H7
  iintro H7
  simp only [Prog.bind_op, Prog.bind_ret]
  ihave H7 := (out_blk fX fQ fK fV fO 0 b f7 _ hv) $$ H7
  ihave H7 := (Entails.of_eq (blk_halves 0 b (oAll fX fQ fK fV fO))) $$ H7
  icases H7 with ⟨H70, H71⟩
  rw [wp_bind]
  iapply (wp_send (oAll fX fQ fK fV fO) κ 0 1 0 b (later 0 b.val) (.inl rfl) (.inl ⟨rfl, .inl rfl⟩) (in_later0 b).1 W) $$ [H70 F1 Hw Ts0 Tr1]
  · isplitr; · iexact HI
    isplitl [H70]; · iexact H70
    isplitl [F1]; · iexact F1
    isplitl [Hw]; · iexact Hw
    isplitl [Ts0]; · iexact Ts0
    iexact Tr1
  iintro ⟨C0, Hw⟩
  rw [wp_bind]
  iapply (wp_send (oAll fX fQ fK fV fO) κ 0 3 1 b _ (.inl rfl) (.inl ⟨rfl, .inr rfl⟩) (in_later0 b).2 W) $$ [H71 F3 Hw Ts1 Tr3]
  · isplitr; · iexact HI
    isplitl [H71]; · iexact H71
    isplitl [F3]; · iexact F3
    isplitl [Hw]; · iexact Hw
    isplitl [Ts1]; · iexact Ts1
    iexact Tr3
  iintro ⟨C1, Hw⟩
  rw [later_two b]
  iapply (wp_load_rect 𝒱₀ ((0 : Dev nD) : Thread nD τ) none Set.univ (m := A5) (r := rR b.val b.isLt) (S := Finset.univ) (q := fullShare) (f := r) (Finset.subset_univ _)) $$ HR
  iintro HR
  iapply (wp_store 𝒱₀ ((0 : Dev nD) : Thread nD τ) none Set.univ (m := A5) (r := rR b.val b.isLt) (Mk := Finset.univ) (S := Finset.univ) (f := r) (Finset.subset_univ _)) $$ HR
  iintro HR
  rw [wp_ret]
  imodintro
  have hR : Rows fX fQ fK fV fO (b.val + 1)
      (((Memref.whole cc0_stg5_0).access (rR b.val b.isLt)).write (Elt F) r (payO (proj (View.read (Elt F) (A6.access (rX b.val b.isLt)) f') (View.read (Elt F) (A4.access rW) fO))) Finset.univ) := by
    rw [hv]; exact rows_step fX fQ fK fV fO hr
  iapply Hk
  isplitr [C0 C1]
  · isplitl [HX HQ HK HV HO]
    · isplitl [HX]; · iexact HX
      isplitl [HQ]; · iexact HQ
      isplitl [HK]; · iexact HK
      isplitl [HV]; · iexact HV
      iexact HO
    isplitl [HR]
    · iexists (((Memref.whole cc0_stg5_0).access (rR b.val b.isLt)).write (Elt F) r (payO (proj (View.read (Elt F) (A6.access (rX b.val b.isLt)) f') (View.read (Elt F) (A4.access rW) fO))) Finset.univ)
      isplitr; · ipureintro; exact hR
      iexact HR
    isplitl [HC]; · iexists f'; iexact HC
    iexists W; iexact Hw
  · unfold D0
    isplitl [C0]; · iexact C0
    iexact C1

/-- A semaphore whose round is over is spent. -/
theorem spent_one (OF : Vec F S8x256x1024 .bf16) (c : Dev nD) (k : Key) : (atPos ER (cell c k) 1 ∅ 0 : sProp 𝕄) ⊢ spent OF c k := by
  unfold spent
  iintro H
  iexists 1
  isplitr; · ipureintro; exact duties_later OF (cell c k)
  iexact H

/-- A semaphore that nobody pays is spent from the start. -/
theorem spent_none (OF : Vec F S8x256x1024 .bf16) (c : Dev nD) (k : Key) (h : (Finset.univ.filter fun d => Pays d c k) = ∅) :
    (atPos ER (cell c k) 0 ∅ 0 : sProp 𝕄) ⊢ spent OF c k := by
  unfold spent
  iintro H
  iexists 0
  isplitr
  · ipureintro
    intro r _
    match r with
    | 0 => rw [duties_zero]; exact h
    | r + 1 => exact duties_later OF (cell c k) (r + 1) (Nat.le_add_left 1 r)
  iexact H

/-! ## Device 0's loops -/

/-- Device 0's first `n` blocks. -/
theorem wp_blocks : ∀ (n : ℕ) (hn : n ≤ 8) (Q : PUnit → sProp 𝕄),
    (iprop(shared (oAll fX fQ fK fV fO) κ ∗ hold0 fX fQ fK fV fO 0 ∗ upTo (F := F) T0 D0 0)
      ⊢ iprop((hold0 fX fQ fK fV fO n ∗ upTo (F := F) T0 D0 n -∗ Q ⟨⟩)
        -∗ wp frame (wpE (defs₀ (F := F)) 𝒱₀ ((0 : Dev nD) : Thread nD τ) none) Set.univ
          (blocks A0 A1 A2 A3 A4 A5 (Memref.isWhole_whole _) A6 (Memref.isWhole_whole _) A7 (Memref.isWhole_whole _) cc0_scratch2 cc0_scratch3 n hn) Q)) := by
  intro n
  induction n with
  | zero =>
    intro hn Q
    unfold blocks
    iintro ⟨-, H⟩ Hk
    rw [show (pure PUnit.unit : Prog (TpuEff nD τ sig (Elt F) Λ₀ .tc) PUnit) = .ret ⟨⟩ from rfl, wp_ret]
    imodintro
    iapply Hk
    iexact H
  | succ n ih =>
    intro hn Q
    unfold blocks
    iintro ⟨#HI, H⟩ Hk
    rw [wp_bind]
    iapply (ih (Nat.le_of_succ_le hn) _) $$ [H]
    · isplitr; · iexact HI
      iexact H
    iintro ⟨Hh, HU⟩
    ihave HU := (upTo_step (F := F) T0 D0 n hn) $$ HU
    icases HU with ⟨HT, HU⟩
    iapply (wp_block fX fQ fK fV fO κ ⟨n, hn⟩ Q) $$ [Hh HT]
    · isplitr; · iexact HI
      isplitl [Hh]; · iexact Hh
      iexact HT
    iintro ⟨Hh, HD⟩
    iapply Hk
    isplitl [Hh]; · iexact Hh
    iapply HU
    iexact HD

/-- Before device 0's waits for the departures of block `b`. -/
def T0w (b : Fin 8) : sProp 𝕄 := iprop(D0 b ∗ ats 0 b ∗ atPos ER (cell 0 (some (.rcv b))) 0 ∅ 0)

/-- What is owed after the last block has a positive level. -/
theorem low (c : Dev nD) : ∀ x ∈ later c 8, 0 < lev x.1 x.2 := by revert c; decide +kernel
/-- Nobody pays device 0's arrival semaphores. -/
theorem rcv_unpaid (b : Fin 8) : (Finset.univ.filter fun d => Pays d 0 (some (.rcv b))) = ∅ := by revert b; decide +kernel
/-- Nobody pays a departure semaphore out of use. -/
theorem snd_unpaid (c : Dev nD) (l : Fin 2) (b : Fin 8) (h : ¬Sends c l b.val) : (Finset.univ.filter fun d => Pays d c (some (.snd l b))) = ∅ := by
  revert c l b; decide +kernel

/-- Device 0's waits for its first `n` blocks' transfers. -/
theorem wp_sent (OF : Vec F S8x256x1024 .bf16) : ∀ (n : ℕ) (hn : n ≤ 8) (Q : PUnit → sProp 𝕄),
    (iprop(shared OF κ ∗ levAts L lv ∗ owing 0 (later 0 8) ∗ upTo (F := F) T0w (done OF 0) 0)
      ⊢ iprop((owing 0 (later 0 8) ∗ upTo (F := F) T0w (done OF 0) n -∗ Q ⟨⟩)
        -∗ wp frame (wpE (defs₀ (F := F)) 𝒱₀ ((0 : Dev nD) : Thread nD τ) none) Set.univ
          (sent A7 (Memref.isWhole_whole _) cc0_scratch2 n hn) Q)) := by
  intro n
  induction n with
  | zero =>
    intro hn Q
    unfold sent
    iintro ⟨-, -, H⟩ Hk
    rw [show (pure PUnit.unit : Prog (TpuEff nD τ sig (Elt F) Λ₀ .tc) PUnit) = .ret ⟨⟩ from rfl, wp_ret]
    imodintro
    iapply Hk
    iexact H
  | succ n ih =>
    intro hn Q
    unfold sent
    iintro ⟨#HI, #HL, H⟩ Hk
    rw [wp_bind]
    iapply (ih (Nat.le_of_succ_le hn) _) $$ [H]
    · isplitr; · iexact HI
      isplitr; · iexact HL
      iexact H
    iintro ⟨Hw, HU⟩
    ihave HU := (upTo_step (F := F) T0w (done OF 0) n hn) $$ HU
    icases HU with ⟨HT, HU⟩
    unfold owing T0w D0 ats
    icases Hw with ⟨%W, Hw⟩
    icases HT with ⟨⟨C0, C1⟩, ⟨P0, P1⟩, PR⟩
    rw [wp_bind]
    iapply (wp_waitS OF κ 0 0 ⟨n, hn⟩ (.inl rfl) (later 0 8) (low 0) W _) $$ [Hw C0 P0]
    · isplitr; · iexact HI
      isplitr; · iexact HL
      isplitl [Hw]; · iexact Hw
      isplitl [C0]; · iexact C0
      iexact P0
    iintro ⟨⟨%W', Hw⟩, P0, B0⟩
    iapply (wp_waitS OF κ 0 1 ⟨n, hn⟩ (.inl rfl) (later 0 8) (low 0) W' _) $$ [Hw C1 P1]
    · isplitr; · iexact HI
      isplitr; · iexact HL
      isplitl [Hw]; · iexact Hw
      isplitl [C1]; · iexact C1
      iexact P1
    iintro ⟨Hw, P1, B1⟩
    iapply Hk
    isplitl [Hw]; · iexact Hw
    iapply HU
    unfold done
    isplitl [B0 B1]
    · iapply (Entails.of_eq (blk_halves 0 ⟨n, hn⟩ OF).symm)
      isplitl [B0]; · iexact B0
      iexact B1
    isplitl [P0]; · iapply (spent_one OF 0 (some (.snd 0 ⟨n, hn⟩))); iexact P0
    isplitl [P1]; · iapply (spent_one OF 0 (some (.snd 1 ⟨n, hn⟩))); iexact P1
    iapply (spent_none OF 0 (some (.rcv ⟨n, hn⟩)) (rcv_unpaid _)); iexact PR

/-! ## A receiver's loops -/

/-- A receiver after its first `n` blocks. -/
def hold1 (c : Dev nD) (n : ℕ) : sProp 𝕄 := iprop(outRows fX fQ fK fV fO c n ∗ owing c (later c n))

/-- A device that waits for block `b` owes only what has a higher level. -/
theorem rcv_low (c : Dev nD) (b : Fin 8) (h : c ≠ 0) : ∀ x ∈ later c b.val, lev c (some (.rcv b)) < lev x.1 x.2 := by
  revert c b; decide +kernel
/-- Before block `b` the device that passes it on owes that transfer. -/
theorem in_later1 (c : Dev nD) (b : Fin 8) (h : Relays c b.val) : (2, some (.rcv b)) ∈ later c b.val := by
  revert c b; decide +kernel

/-- A receiver's copy of a landed block to the result. -/
theorem wp_copy (c : Dev nD) (b : Fin 8) (q : PosShare TreeShare) (Q : PUnit → sProp 𝕄) :
    iprop(outRows fX fQ fK fV fO c b.val ∗ blk c b q (oAll fX fQ fK fV fO))
      ⊢ iprop((outRows fX fQ fK fV fO c (b.val + 1) ∗ blk c b q (oAll fX fQ fK fV fO) -∗ Q ⟨⟩)
        -∗ wp frame (wpE (defs₀ (F := F)) 𝒱₀ (c : Thread nD τ) none) Set.univ
          (do
            let o : Vec F S1x256x1024 .bf16 ← Prog.lift (.load A7 (rO b.val b.isLt).toLoadRect (View.loadsAt_vmem h_S1x256x1024))
            let _ : Vec F S1x256x1024 .bf16 ← Prog.lift (.load A5 (rR b.val b.isLt).toLoadRect (View.loadsAt_vmem h_S1x256x1024))
            Prog.lift (.store A5 (rR b.val b.isLt) (payR o) Finset.univ
              (View.stores_vmem h_S1x256x1024 ((Memref.isWhole_whole cc0_stg5_0).storeExact_slice rfl _ (packed_R b.val b.isLt)) (fun _ => rfl)) (.inl rfl))) Q) := by
  unfold outRows
  simp only [Prog.lift, Prog.bind_op, Prog.bind_ret]
  iintro ⟨⟨%r, %hr, HR⟩, H7⟩ Hk
  iapply (wp_load_rect 𝒱₀ (c : Thread nD τ) none Set.univ (m := A7) (r := rO b.val b.isLt) (S := (oM A7 b.val b.isLt).view.set) (q := q) (f := (oAll fX fQ fK fV fO)) (sub_oM b.val b.isLt)) $$ H7
  iintro H7
  iapply (wp_load_rect 𝒱₀ (c : Thread nD τ) none Set.univ (m := A5) (r := rR b.val b.isLt) (S := Finset.univ) (q := fullShare) (f := r) (Finset.subset_univ _)) $$ HR
  iintro HR
  iapply (wp_store 𝒱₀ (c : Thread nD τ) none Set.univ (m := A5) (r := rR b.val b.isLt) (Mk := Finset.univ) (S := Finset.univ) (f := r) (Finset.subset_univ _)) $$ HR
  iintro HR
  rw [wp_ret]
  imodintro
  have hR : Rows fX fQ fK fV fO (b.val + 1)
      (((Memref.whole cc0_stg5_0).access (rR b.val b.isLt)).write (Elt F) r (payR (part (rO b.val b.isLt) (oAll fX fQ fK fV fO))) Finset.univ) := by
    rw [out_read]; exact rows_step fX fQ fK fV fO hr
  iapply Hk
  isplitl [HR]
  · iexists (((Memref.whole cc0_stg5_0).access (rR b.val b.isLt)).write (Elt F) r (payR (part (rO b.val b.isLt) (oAll fX fQ fK fV fO))) Finset.univ)
    isplitr; · ipureintro; exact hR
    iexact HR
  iexact H7

set_option maxHeartbeats 2000000 in
/-- A receiver's work on one block. -/
theorem wp_recv (c : Dev nD) (hc : c ≠ 0) (b : Fin 8) (Q : PUnit → sProp 𝕄) :
    iprop(shared (oAll fX fQ fK fV fO) κ ∗ levAts L lv ∗ hold1 fX fQ fK fV fO c b.val ∗ T1 c b)
      ⊢ iprop((hold1 fX fQ fK fV fO c (b.val + 1) ∗ D1 (oAll fX fQ fK fV fO) c b -∗ Q ⟨⟩)
        -∗ wp frame (wpE (defs₀ (F := F)) 𝒱₀ (c : Thread nD τ) none) Set.univ
          (recv A5 (Memref.isWhole_whole _) A7 (Memref.isWhole_whole _) cc0_scratch2 cc0_scratch3 c b.val b.isLt) Q) := by
  unfold recv hold1 T1 D1 owing
  iintro ⟨#HI, #HL, ⟨HR, ⟨%W, Hw⟩⟩, ⟨Hc, Hat, HT⟩⟩ Hk
  rw [wp_bind]
  iapply (wp_waitR (oAll fX fQ fK fV fO) κ c b hc (later c b.val) (rcv_low c b hc) W _) $$ [Hw Hc Hat]
  · isplitr; · iexact HI
    isplitr; · iexact HL
    isplitl [Hw]; · iexact Hw
    isplitl [Hc]; · iexact Hc
    iexact Hat
  iintro ⟨⟨%W', Hw⟩, Hat, H7⟩
  ihave Hs := (spent_one (oAll fX fQ fK fV fO) c (some (.rcv b))) $$ Hat
  by_cases h : Relays c b.val
  · simp only [if_pos h]
    icases HT with ⟨Ts, Tr, Fr⟩
    ihave H7 := (Entails.of_eq (blk_halves c b (oAll fX fQ fK fV fO))) $$ H7
    icases H7 with ⟨H70, H71⟩
    rw [wp_bind]
    iapply (wp_send (oAll fX fQ fK fV fO) κ c 2 0 b (later c b.val) (.inr ⟨rfl, h⟩) (.inr ⟨rfl, h⟩) (in_later1 c b h) W') $$ [H70 Fr Hw Ts Tr]
    · isplitr; · iexact HI
      isplitl [H70]; · iexact H70
      isplitl [Fr]; · iexact Fr
      isplitl [Hw]; · iexact Hw
      isplitl [Ts]; · iexact Ts
      iexact Tr
    iintro ⟨C0, Hw⟩
    rw [later_one c b hc h]
    iapply (wp_copy fX fQ fK fV fO c b (half 1) Q) $$ [HR H71]
    · isplitl [HR]; · iexact HR
      iexact H71
    iintro ⟨HR, H71⟩
    iapply Hk
    isplitl [HR Hw]
    · isplitl [HR]; · iexact HR
      iexists W'; iexact Hw
    isplitl [Hs]; · iexact Hs
    isplitl [C0]; · iexact C0
    iexact H71
  · simp only [if_neg h]
    rw [later_none c b hc h]
    iapply (wp_copy fX fQ fK fV fO c b fullShare Q) $$ [HR H7]
    · isplitl [HR]; · iexact HR
      iexact H7
    iintro ⟨HR, H7⟩
    iapply Hk
    isplitl [HR Hw]
    · isplitl [HR]; · iexact HR
      iexists W'; iexact Hw
    isplitl [Hs]; · iexact Hs
    iexact H7

/-- A receiver's first `n` blocks. -/
theorem wp_recvs (c : Dev nD) (hc : c ≠ 0) : ∀ (n : ℕ) (hn : n ≤ 8) (Q : PUnit → sProp 𝕄),
    (iprop(shared (oAll fX fQ fK fV fO) κ ∗ levAts L lv ∗ hold1 fX fQ fK fV fO c 0 ∗ upTo (F := F) (T1 c) (D1 (oAll fX fQ fK fV fO) c) 0)
      ⊢ iprop((hold1 fX fQ fK fV fO c n ∗ upTo (F := F) (T1 c) (D1 (oAll fX fQ fK fV fO) c) n -∗ Q ⟨⟩)
        -∗ wp frame (wpE (defs₀ (F := F)) 𝒱₀ (c : Thread nD τ) none) Set.univ
          (recvs A5 (Memref.isWhole_whole _) A7 (Memref.isWhole_whole _) cc0_scratch2 cc0_scratch3 c n hn) Q)) := by
  intro n
  induction n with
  | zero =>
    intro hn Q
    unfold recvs
    iintro ⟨-, -, H⟩ Hk
    rw [show (pure PUnit.unit : Prog (TpuEff nD τ sig (Elt F) Λ₀ .tc) PUnit) = .ret ⟨⟩ from rfl, wp_ret]
    imodintro
    iapply Hk
    iexact H
  | succ n ih =>
    intro hn Q
    unfold recvs
    iintro ⟨#HI, #HL, H⟩ Hk
    rw [wp_bind]
    iapply (ih (Nat.le_of_succ_le hn) _) $$ [H]
    · isplitr; · iexact HI
      isplitr; · iexact HL
      iexact H
    iintro ⟨Hh, HU⟩
    ihave HU := (upTo_step (F := F) (T1 c) (D1 (oAll fX fQ fK fV fO) c) n hn) $$ HU
    icases HU with ⟨HT, HU⟩
    iapply (wp_recv fX fQ fK fV fO κ c hc ⟨n, hn⟩ Q) $$ [Hh HT]
    · isplitr; · iexact HI
      isplitr; · iexact HL
      isplitl [Hh]; · iexact Hh
      iexact HT
    iintro ⟨Hh, HD⟩
    iapply Hk
    isplitl [Hh]; · iexact Hh
    iapply HU
    iexact HD

/-- Before a receiver's wait for the departure of block `b`, if it passed it on. -/
def T1w (OF : Vec F S8x256x1024 .bf16) (c : Dev nD) (b : Fin 8) : sProp 𝕄 := iprop(D1 OF c b ∗ ats c b)

set_option maxHeartbeats 1000000 in
/-- A receiver's waits for the blocks it passed on, among the first `n`. -/
theorem wp_relayed (OF : Vec F S8x256x1024 .bf16) (c : Dev nD) (hc : c ≠ 0) : ∀ (n : ℕ) (hn : n ≤ 8) (Q : PUnit → sProp 𝕄),
    (iprop(shared OF κ ∗ levAts L lv ∗ owing c (later c 8) ∗ upTo (F := F) (T1w OF c) (done OF c) 0)
      ⊢ iprop((owing c (later c 8) ∗ upTo (F := F) (T1w OF c) (done OF c) n -∗ Q ⟨⟩)
        -∗ wp frame (wpE (defs₀ (F := F)) 𝒱₀ (c : Thread nD τ) none) Set.univ
          (relayed A7 (Memref.isWhole_whole _) cc0_scratch2 c n hn) Q)) := by
  intro n
  induction n with
  | zero =>
    intro hn Q
    unfold relayed
    iintro ⟨-, -, H⟩ Hk
    rw [show (pure PUnit.unit : Prog (TpuEff nD τ sig (Elt F) Λ₀ .tc) PUnit) = .ret ⟨⟩ from rfl, wp_ret]
    imodintro
    iapply Hk
    iexact H
  | succ n ih =>
    intro hn Q
    unfold relayed
    iintro ⟨#HI, #HL, H⟩ Hk
    rw [wp_bind]
    iapply (ih (Nat.le_of_succ_le hn) _) $$ [H]
    · isplitr; · iexact HI
      isplitr; · iexact HL
      iexact H
    iintro ⟨Hw, HU⟩
    ihave HU := (upTo_step (F := F) (T1w OF c) (done OF c) n hn) $$ HU
    icases HU with ⟨HT, HU⟩
    unfold owing T1w D1 ats
    icases HT with ⟨⟨HR, HB⟩, ⟨P0, P1⟩⟩
    ihave HP1 := (spent_none OF c (some (.snd 1 ⟨n, hn⟩)) (snd_unpaid c 1 ⟨n, hn⟩ (fun h => h.elim hc fun h => by cases h.1))) $$ P1
    by_cases h : Relays c n
    · simp only [if_pos h]
      icases Hw with ⟨%W, Hw⟩
      icases HB with ⟨C0, B1⟩
      iapply (wp_waitS OF κ c 0 ⟨n, hn⟩ (.inr ⟨rfl, h⟩) (later c 8) (low c) W _) $$ [Hw C0 P0]
      · isplitr; · iexact HI
        isplitr; · iexact HL
        isplitl [Hw]; · iexact Hw
        isplitl [C0]; · iexact C0
        iexact P0
      iintro ⟨Hw, P0, B0⟩
      iapply Hk
      isplitl [Hw]; · iexact Hw
      iapply HU
      unfold done
      isplitl [B0 B1]
      · iapply (Entails.of_eq (blk_halves c ⟨n, hn⟩ OF).symm)
        isplitl [B0]; · iexact B0
        iexact B1
      isplitl [P0]; · iapply (spent_one OF c (some (.snd 0 ⟨n, hn⟩))); iexact P0
      isplitl [HP1]; · iexact HP1
      iexact HR
    · simp only [if_neg h]
      rw [show (pure PUnit.unit : Prog (TpuEff nD τ sig (Elt F) Λ₀ .tc) PUnit) = .ret ⟨⟩ from rfl, wp_ret]
      imodintro
      iapply Hk
      isplitl [Hw]; · iexact Hw
      iapply HU
      unfold done
      isplitl [HB]; · iexact HB
      isplitl [P0]
      · iapply (spent_none OF c (some (.snd 0 ⟨n, hn⟩)) (snd_unpaid c 0 ⟨n, hn⟩ (fun h' => h'.elim hc fun h' => h h'.2))); iexact P0
      isplitl [HP1]; · iexact HP1
      iexact HR

end Cert.KernelIdeal.Blocks

end
-- ==== Proof.Device.lean ====
/- One device's whole program: what it starts with, the two barriers around its work, what it ends with. -/
module

public import proofs.«01_k».proof.Proof.Body

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the devices and over the semaphores -/

/-- What follows block by block follows of all blocks. -/
theorem each {Φ Ψ : Fin 8 → sProp 𝕄} (h : ∀ b, Φ b ⊢ Ψ b) : bigSep Finset.univ Φ ⊢ bigSep Finset.univ Ψ := bigSep_mono fun b _ => h b
/-- Two families of blocks are one family of pairs. -/
theorem pair {Φ Ψ : Fin 8 → sProp 𝕄} :
    iprop(bigSep Finset.univ Φ ∗ bigSep Finset.univ Ψ) ⊢ bigSep Finset.univ (fun b => iprop(Φ b ∗ Ψ b)) := Entails.of_eq (bigSep_sep' _ _ _).symm
/-- A family of pairs is two families. -/
theorem unpair {Φ Ψ : Fin 8 → sProp 𝕄} :
    bigSep Finset.univ (fun b => iprop(Φ b ∗ Ψ b)) ⊢ iprop(bigSep Finset.univ Φ ∗ bigSep Finset.univ Ψ) := Entails.of_eq (bigSep_sep' _ _ _)
/-- The separating conjunction is associative. -/
theorem assoc (P Q R : sProp 𝕄) : iprop((P ∗ Q) ∗ R) = iprop(P ∗ Q ∗ R) :=
  BI.Entails.antisymm (show iprop((P ∗ Q) ∗ R) ⊢ iprop(P ∗ Q ∗ R) from sep_assoc.1) (show iprop(P ∗ Q ∗ R) ⊢ iprop((P ∗ Q) ∗ R) from sep_assoc.2)

/-- A family over the devices is its four members. -/
theorem bigSep_dev (Φ : Dev nD → sProp 𝕄) : bigSep Finset.univ Φ = iprop(Φ 0 ∗ Φ 1 ∗ Φ 2 ∗ Φ 3) := by
  rw [show (Finset.univ : Finset (Dev nD)) = insert 0 (insert 1 (insert 2 {3})) from by decide,
    bigSep_insert (by decide), bigSep_insert (by decide), bigSep_insert (by decide), bigSep_singleton]
  rfl

/-- The family over the kernel's own semaphores: the exit barrier's, and block by block the two departures' and the arrival's. -/
theorem bigSep_own (Φ : Own → sProp 𝕄) :
    bigSep Finset.univ Φ = iprop(Φ .xch ∗ bigSep Finset.univ fun b : Fin 8 => iprop(Φ (.snd 0 b) ∗ Φ (.snd 1 b) ∗ Φ (.rcv b))) := by
  have hs : bigSep Finset.univ (fun x : Fin 2 × Fin 8 => Φ (.snd x.1 x.2))
      = iprop(bigSep Finset.univ (fun b => Φ (.snd 0 b)) ∗ bigSep Finset.univ (fun b => Φ (.snd 1 b))) := by
    rw [bigSep_univ_prod]; exact bigSep_fin_two _
  rw [bigSep_sep', bigSep_sep']
  rw [show (Finset.univ : Finset Own) = insert .xch (Finset.univ.map sndEmb ∪ Finset.univ.map rcvEmb) from rfl,
    bigSep_insert (by decide), bigSep_union (by decide), bigSep_map, bigSep_map]
  rw [show bigSep Finset.univ (fun i => Φ (sndEmb i)) = _ from hs]
  exact congrArg (fun P => iprop(Φ .xch ∗ P)) (assoc _ _ _)

/-- A family over the keys is the entry barrier's member and those of the device's own semaphores. -/
theorem bigSep_key (Φ : Key → sProp 𝕄) : bigSep Finset.univ Φ = iprop(Φ none ∗ bigSep Finset.univ fun k : Own => Φ (some k)) := by
  rw [show (Finset.univ : Finset Key) = insert none (Finset.univ.map Function.Embedding.some) from by decide,
    bigSep_insert (by decide), bigSep_map]
  rfl

/-! ## The tokens a device uses -/

/-- The tokens for block `b` that device `c` uses. -/
def blockToks (c : Dev nD) (b : Fin 8) : sProp 𝕄 :=
  if c = 0 then iprop(dutyTok ER (cell 0 (some (.snd 0 b))) 0 0 ∗ dutyTok ER (cell 0 (some (.snd 1 b))) 0 0
      ∗ dutyTok ER (cell 1 (some (.rcv b))) 0 0 ∗ dutyTok ER (cell 3 (some (.rcv b))) 0 0)
  else if Relays c b.val then iprop(dutyTok ER (cell c (some (.snd 0 b))) 0 c ∗ dutyTok ER (cell 2 (some (.rcv b))) 0 c)
  else iprop(emp)

/-- All the tokens of device `c`'s payments. -/
def toks (c : Dev nD) : sProp 𝕄 := bigSep Finset.univ fun x : Dev nD × Key => dutyTok ER (cell x.1 x.2) 0 c

/-- Those on device `d`'s semaphores, one by one. -/
def toksOn (c d : Dev nD) : sProp 𝕄 :=
  iprop(dutyTok ER (cell d none) 0 c ∗ dutyTok ER (cell d (some .xch)) 0 c
    ∗ bigSep Finset.univ fun b : Fin 8 => iprop(dutyTok ER (cell d (some (.snd 0 b))) 0 c ∗ dutyTok ER (cell d (some (.snd 1 b))) 0 c ∗ dutyTok ER (cell d (some (.rcv b))) 0 c))

/-- A device's duties, by the device that they are owed to. -/
theorem toks_eq (c : Dev nD) : (toks c : sProp 𝕄) = iprop(toksOn c 0 ∗ toksOn c 1 ∗ toksOn c 2 ∗ toksOn c 3) := by
  unfold toks
  rw [bigSep_univ_prod, bigSep_congr (fun d _ => show _ = toksOn c d from by rw [bigSep_key, bigSep_own]; rfl), bigSep_dev]

/-- The tokens a device uses: its barriers' on its two neighbours, and its blocks'. -/
def useToks (c : Dev nD) : sProp 𝕄 :=
  iprop((dutyTok ER (cell (nb1 c) none) 0 c ∗ dutyTok ER (cell (nb1 c) (some .xch)) 0 c)
    ∗ (dutyTok ER (cell (nb2 c) none) 0 c ∗ dutyTok ER (cell (nb2 c) (some .xch)) 0 c) ∗ bigSep Finset.univ (blockToks (F := F) c))

/-- Device 0's duties are those that it carries out. -/
theorem use_0 : (toks 0 : sProp 𝕄) ⊢ useToks 0 := by
  rw [toks_eq]
  unfold toksOn useToks
  iintro ⟨⟨-, -, H0⟩, ⟨N1, X1, H1⟩, -, ⟨N3, X3, H3⟩⟩
  isplitl [N1 X1]
  · isplitl [N1]; · iexact N1
    iexact X1
  isplitl [N3 X3]
  · isplitl [N3]; · iexact N3
    iexact X3
  ihave H := pair $$ [H0 H1]
  · isplitl [H0]; · iexact H0
    iexact H1
  ihave H := pair $$ [H H3]
  · isplitl [H]; · iexact H
    iexact H3
  iapply (each fun b => ?_) $$ H
  unfold blockToks
  rw [if_pos rfl]
  iintro ⟨⟨⟨S0, S1, -⟩, -, -, R1⟩, -, -, R3⟩
  isplitl [S0]; · iexact S0
  isplitl [S1]; · iexact S1
  isplitl [R1]; · iexact R1
  iexact R3

/-- The duties of devices 1 and 3 are those that they carry out. -/
theorem use_odd (c : Dev nD) (h : c = 1 ∨ c = 3) : (toks c : sProp 𝕄) ⊢ useToks c := by
  have h0 : c ≠ 0 := by rcases h with rfl | rfl <;> decide
  have e1 : nb1 c = 0 := by rcases h with rfl | rfl <;> rfl
  have e2 : nb2 c = 2 := by rcases h with rfl | rfl <;> rfl
  have hc : (toks c : sProp 𝕄) ⊢ iprop(toksOn c 0 ∗ toksOn c 2 ∗ toksOn c c) := by
    rw [toks_eq]
    rcases h with rfl | rfl
    · iintro ⟨H0, H1, H2, -⟩
      isplitl [H0]; · iexact H0
      isplitl [H2]; · iexact H2
      iexact H1
    · iintro ⟨H0, -, H2, H3⟩
      isplitl [H0]; · iexact H0
      isplitl [H2]; · iexact H2
      iexact H3
  refine hc.trans ?_
  unfold toksOn useToks
  rw [e1, e2]
  iintro ⟨⟨N0, X0, -⟩, ⟨N2, X2, H2⟩, -, -, Hc⟩
  isplitl [N0 X0]
  · isplitl [N0]; · iexact N0
    iexact X0
  isplitl [N2 X2]
  · isplitl [N2]; · iexact N2
    iexact X2
  ihave H := pair $$ [Hc H2]
  · isplitl [Hc]; · iexact Hc
    iexact H2
  iapply (each fun b => ?_) $$ H
  unfold blockToks
  rw [if_neg h0]
  by_cases hr : Relays c b.val
  · rw [if_pos hr]
    iintro ⟨⟨S0, -, -⟩, -, -, R2⟩
    isplitl [S0]; · iexact S0
    iexact R2
  · rw [if_neg hr]
    iintro -
    iempintro

/-- Device 2 passes nothing on. -/
theorem relays_2 (b : Fin 8) : ¬Relays 2 b.val := by revert b; decide

/-- Device 2's duties are those that it carries out. -/
theorem use_2 : (toks 2 : sProp 𝕄) ⊢ useToks 2 := by
  rw [toks_eq]
  unfold toksOn useToks
  iintro ⟨-, ⟨N1, X1, H1⟩, -, ⟨N3, X3, -⟩⟩
  isplitl [N1 X1]
  · isplitl [N1]; · iexact N1
    iexact X1
  isplitl [N3 X3]
  · isplitl [N3]; · iexact N3
    iexact X3
  iapply (each fun b => ?_) $$ H1
  unfold blockToks
  rw [if_neg (by decide), if_neg (relays_2 b)]
  iintro -
  iempintro

/-- Every device's duties are those that it carries out. -/
theorem use_toks (c : Dev nD) : (toks c : sProp 𝕄) ⊢ useToks c :=
  match c with
  | 0 => use_0
  | 1 => use_odd 1 (.inl rfl)
  | 2 => use_2
  | 3 => use_odd 3 (.inr rfl)

/-! ## What the entry barrier hands over -/

/-- A block of device 0 is fed by nobody, of another device by exactly one of its neighbours. -/
theorem feeds_cases (c : Dev nD) (b : Fin 8) :
    (c = 0 ∧ ¬Feeds (nb1 c) c b.val ∧ ¬Feeds (nb2 c) c b.val) ∨ (c ≠ 0 ∧ Feeds (nb1 c) c b.val ∧ ¬Feeds (nb2 c) c b.val)
      ∨ (c ≠ 0 ∧ ¬Feeds (nb1 c) c b.val ∧ Feeds (nb2 c) c b.val) := by
  revert c b; decide +kernel

/-- What device `d` hands device `c` at the entry barrier, of block `b`. -/
def give (c d : Dev nD) (b : Fin 8) : sProp 𝕄 :=
  if Feeds c d b.val then iprop((∃ f : Vec F S8x256x1024 .bf16, blk d b fullShare f) ∗ reached ER (cell d (some (.rcv b))) 0) else iprop(emp)

/-- What an entry signal hands over, block by block. -/
theorem barPay_eq (c d : Dev nD) : (barPay c d : sProp 𝕄) = iprop(bigSep Finset.univ (give (F := F) c d) ∗ reached ER (cell d (some .xch)) 0) := rfl

/-- A device's blocks of the outgoing buffer: each to the neighbour that feeds it; device 0 keeps its own. -/
theorem give_out (c : Dev nD) :
    (iprop(bigSep Finset.univ (fun b : Fin 8 => reached ER (cell c (some (.rcv b))) 0) ∗ reached ER (cell c (some .xch)) 0
        ∗ bigSep Finset.univ (fun b : Fin 8 => free c b)) : sProp 𝕄)
      ⊢ iprop(barPay (nb1 c) c ∗ barPay (nb2 c) c ∗ bigSep Finset.univ fun b : Fin 8 => if c = 0 then free c b else iprop(emp)) := by
  rw [barPay_eq, barPay_eq]
  iintro ⟨Hr, #Hx, Hf⟩
  ihave H := pair $$ [Hr Hf]
  · isplitl [Hr]; · iexact Hr
    iexact Hf
  have hb (b : Fin 8) : (iprop(reached ER (cell c (some (.rcv b))) 0 ∗ free c b) : sProp 𝕄)
      ⊢ iprop(give (F := F) (nb1 c) c b ∗ give (F := F) (nb2 c) c b ∗ if c = 0 then free c b else iprop(emp)) := by
    unfold give
    rcases feeds_cases c b with ⟨h0, h1, h2⟩ | ⟨h0, h1, h2⟩ | ⟨h0, h1, h2⟩
    · rw [if_neg h1, if_neg h2, if_pos h0]
      iintro ⟨-, H⟩
      isplitr; · iempintro
      isplitr; · iempintro
      iexact H
    · rw [if_pos h1, if_neg h2, if_neg h0]
      iintro ⟨Hr, H⟩
      isplitl [Hr H]
      · isplitl [H]; · iexact H
        iexact Hr
      isplitr <;> iempintro
    · rw [if_neg h1, if_pos h2, if_neg h0]
      iintro ⟨Hr, H⟩
      isplitr; · iempintro
      isplitl [Hr H]
      · isplitl [H]; · iexact H
        iexact Hr
      iempintro
  ihave H := (each hb) $$ H
  ihave H := unpair $$ H
  icases H with ⟨H1, H⟩
  ihave H := unpair $$ H
  icases H with ⟨H2, H⟩
  isplitl [H1]
  · isplitl [H1]; · iexact H1
    iexact Hx
  isplitl [H2]
  · isplitl [H2]; · iexact H2
    iexact Hx
  iexact H

/-- What device `c`'s work on block `b` starts with. -/
def start (c : Dev nD) (b : Fin 8) : sProp 𝕄 :=
  if c = 0 then T0 b
  else if Relays c b.val then iprop(tok c (some (.snd 0 b)) c ∗ tok 2 (some (.rcv b)) c ∗ free 2 b) else iprop(emp)

/-- Device 0 feeds both of its neighbours. -/
theorem feeds_0 (b : Fin 8) : Feeds 0 (nb1 0) b.val ∧ Feeds 0 (nb2 0) b.val := by revert b; decide +kernel
/-- The device that passes a block on feeds its second neighbour, device 2. -/
theorem feeds_relay (c : Dev nD) (b : Fin 8) (h : Relays c b.val) : nb2 c = 2 ∧ Feeds c (nb2 c) b.val := by revert c b; decide +kernel

/-- What a device holds of a block after the entry barrier is what it needs for it. -/
theorem gather (c : Dev nD) (b : Fin 8) :
    (iprop((reached ER (cell c (some (.snd 0 b))) 0 ∗ reached ER (cell c (some (.snd 1 b))) 0)
        ∗ (blockToks (F := F) c b ∗ give (F := F) c (nb1 c) b) ∗ give (F := F) c (nb2 c) b ∗ if c = 0 then free c b else iprop(emp)) : sProp 𝕄)
      ⊢ start c b := by
  unfold blockToks give start
  by_cases h0 : c = 0
  · subst h0
    rw [if_pos rfl, if_pos (feeds_0 b).1, if_pos (feeds_0 b).2, if_pos rfl, if_pos rfl]
    unfold T0
    iintro ⟨⟨R0, R1⟩, ⟨⟨S0, S1, K1, K3⟩, F1, E1⟩, ⟨F3, E3⟩, F0⟩
    isplitl [F0]; · iexact F0
    isplitl [S0 R0]
    · isplitl [S0]; · iexact S0
      iexact R0
    isplitl [S1 R1]
    · isplitl [S1]; · iexact S1
      iexact R1
    isplitl [K1 E1]
    · isplitl [K1]; · iexact K1
      iexact E1
    isplitl [K3 E3]
    · isplitl [K3]; · iexact K3
      iexact E3
    isplitl [F1]; · iexact F1
    iexact F3
  · rw [if_neg h0, if_neg h0, if_neg h0]
    by_cases hr : Relays c b.val
    · rw [if_pos hr, if_pos hr, if_pos (feeds_relay c b hr).2, (feeds_relay c b hr).1]
      iintro ⟨⟨R0, -⟩, ⟨⟨S0, K2⟩, -⟩, ⟨F2, E2⟩, -⟩
      isplitl [S0 R0]
      · isplitl [S0]; · iexact S0
        iexact R0
      isplitl [K2 E2]
      · isplitl [K2]; · iexact K2
        iexact E2
      iexact F2
    · rw [if_neg hr, if_neg hr]
      iintro -
      iempintro

/-! ## The work between the barriers -/

section Work

variable (fX : Vec F S2048x1024 .bf16) (fQ : Vec F S1024x1024 .bf16) (fK fV : Vec F S8x2048x128 .bf16) (fO : Vec F S1024x1024 .bf16)
variable (κ : GSem nD τ sig → ℕ)
variable (gX : Vec F S2048x1024 .bf16) (gQ : Vec F S1024x1024 .bf16) (gK gV : Vec F S8x2048x128 .bf16) (gO : Vec F S1024x1024 .bf16)

/-- A device's own operands. -/
def ins (c : Dev nD) : sProp 𝕄 := iprop(pt c cc0_stg0_0 gX ∗ pt c cc0_stg1_0 gQ ∗ pt c cc0_stg2_0 gK ∗ pt c cc0_stg3_0 gV ∗ pt c cc0_stg4_0 gO)

/-- The arrivals' units a device has coming. -/
def arrivals (c : Dev nD) (b : Fin 8) : sProp 𝕄 := if c = 0 then iprop(emp) else cred (tallyAt (cell c (some (.rcv b))) () N)
/-- A device's positions on its semaphores of block `b`. -/
def pos (c : Dev nD) (b : Fin 8) : sProp 𝕄 := iprop(ats c b ∗ atPos ER (cell c (some (.rcv b))) 0 ∅ 0)

set_option maxHeartbeats 1000000 in
/-- Device 0 computes the eight blocks, sends them, and writes the result. -/
theorem wp_work_0 (Q : PUnit → sProp 𝕄) :
    iprop(shared (oAll fX fQ fK fV fO) κ ∗ levAts L lv ∗ ins fX fQ fK fV fO 0 ∗ (∃ r : Vec F S1x2048x1024 .bf16, pt 0 cc0_stg5_0 r) ∗ (∃ s : Vec F S2048x1024 .bf16, pt 0 cc0_scratch0 s)
        ∗ owing 0 (later 0 0) ∗ bigSep Finset.univ (T0 (F := F)) ∗ bigSep Finset.univ (pos (F := F) 0))
      ⊢ iprop((ins fX fQ fK fV fO 0 ∗ outRows fX fQ fK fV fO 0 8 ∗ (∃ s : Vec F S2048x1024 .bf16, pt 0 cc0_scratch0 s) ∗ owing 0 (later 0 8)
          ∗ bigSep Finset.univ (done (oAll fX fQ fK fV fO) 0) -∗ Q ⟨⟩)
        -∗ wp frame (wpE (defs₀ (F := F)) 𝒱₀ ((0 : Dev nD) : Thread nD τ) none) Set.univ
          (do
            blocks A0 A1 A2 A3 A4 A5 (Memref.isWhole_whole _) A6 (Memref.isWhole_whole _) A7 (Memref.isWhole_whole _) cc0_scratch2 cc0_scratch3 8 (le_refl 8)
            sent A7 (Memref.isWhole_whole _) cc0_scratch2 8 (le_refl 8)) Q) := by
  have h1 := wp_blocks fX fQ fK fV fO κ 8 (le_refl 8)
  have h2 := wp_sent κ (oAll fX fQ fK fV fO) 8 (le_refl 8) Q
  rw [upTo_zero, upTo_all] at h1 h2
  unfold hold0 at h1
  unfold ins
  iintro ⟨#HI, #HL, HA, ⟨%r, HR⟩, HC, Hw, HT, HP⟩ Hk
  rw [wp_bind]
  iapply (h1 _) $$ [HA HR HC Hw HT]
  · isplitr; · iexact HI
    isplitr [HT]
    · isplitl [HA]; · iexact HA
      isplitl [HR]
      · unfold outRows
        iexists r
        isplitr; · ipureintro; exact rows_zero fX fQ fK fV fO r
        iexact HR
      isplitl [HC]; · iexact HC
      iexact Hw
    iexact HT
  iintro ⟨⟨HA, HR, HC, Hw⟩, HD⟩
  ihave HD := pair $$ [HD HP]
  · isplitl [HD]; · iexact HD
    iexact HP
  iapply h2 $$ [Hw HD]
  · isplitr; · iexact HI
    isplitr; · iexact HL
    isplitl [Hw]; · iexact Hw
    iexact HD
  iintro ⟨Hw, HD⟩
  iapply Hk
  isplitl [HA]; · iexact HA
  isplitl [HR]; · iexact HR
  isplitl [HC]; · iexact HC
  isplitl [Hw]; · iexact Hw
  iexact HD

set_option maxHeartbeats 1000000 in
/-- Every other device receives the eight blocks, passes its own on, and writes the result. -/
theorem wp_work_1 (c : Dev nD) (hc : c ≠ 0) (Q : PUnit → sProp 𝕄) :
    iprop(shared (oAll fX fQ fK fV fO) κ ∗ levAts L lv ∗ (∃ r : Vec F S1x2048x1024 .bf16, pt c cc0_stg5_0 r)
        ∗ owing c (later c 0) ∗ bigSep Finset.univ (T1 (F := F) c) ∗ bigSep Finset.univ (ats (F := F) c))
      ⊢ iprop((outRows fX fQ fK fV fO c 8 ∗ owing c (later c 8) ∗ bigSep Finset.univ (done (oAll fX fQ fK fV fO) c) -∗ Q ⟨⟩)
        -∗ wp frame (wpE (defs₀ (F := F)) 𝒱₀ (c : Thread nD τ) none) Set.univ
          (do
            recvs A5 (Memref.isWhole_whole _) A7 (Memref.isWhole_whole _) cc0_scratch2 cc0_scratch3 c 8 (le_refl 8)
            relayed A7 (Memref.isWhole_whole _) cc0_scratch2 c 8 (le_refl 8)) Q) := by
  have h1 := wp_recvs fX fQ fK fV fO κ c hc 8 (le_refl 8)
  have h2 := wp_relayed κ (oAll fX fQ fK fV fO) c hc 8 (le_refl 8) Q
  rw [upTo_zero, upTo_all] at h1 h2
  unfold hold1 at h1
  iintro ⟨#HI, #HL, ⟨%r, HR⟩, Hw, HT, HP⟩ Hk
  rw [wp_bind]
  iapply (h1 _) $$ [HR Hw HT]
  · isplitr; · iexact HI
    isplitr; · iexact HL
    isplitr [HT]
    · isplitl [HR]
      · unfold outRows
        iexists r
        isplitr; · ipureintro; exact rows_zero fX fQ fK fV fO r
        iexact HR
      iexact Hw
    iexact HT
  iintro ⟨⟨HR, Hw⟩, HD⟩
  ihave HD := pair $$ [HD HP]
  · isplitl [HD]; · iexact HD
    iexact HP
  iapply h2 $$ [Hw HD]
  · isplitr; · iexact HI
    isplitr; · iexact HL
    isplitl [Hw]; · iexact Hw
    iexact HD
  iintro ⟨Hw, HD⟩
  iapply Hk
  isplitl [HR]; · iexact HR
  isplitl [Hw]; · iexact Hw
  iexact HD

/-- What a receiver needs to begin with a block. -/
theorem start_recv (c : Dev nD) (hc : c ≠ 0) (b : Fin 8) :
    (iprop((start c b ∗ arrivals c b) ∗ atPos ER (cell c (some (.rcv b))) 0 ∅ 0) : sProp 𝕄) ⊢ T1 c b := by
  unfold start arrivals T1
  rw [if_neg hc, if_neg hc]
  iintro ⟨⟨Hs, Hc⟩, Ha⟩
  isplitl [Hc]; · iexact Hc
  isplitl [Ha]; · iexact Ha
  iexact Hs

set_option maxHeartbeats 1000000 in
/-- A device's work between the barriers. -/
theorem wp_work (c : Dev nD) (hc : c = 0 → gX = fX ∧ gQ = fQ ∧ gK = fK ∧ gV = fV ∧ gO = fO) (Q : PUnit → sProp 𝕄) :
    iprop(shared (oAll fX fQ fK fV fO) κ ∗ levAts L lv ∗ ins gX gQ gK gV gO c ∗ (∃ r : Vec F S1x2048x1024 .bf16, pt c cc0_stg5_0 r) ∗ (∃ s : Vec F S2048x1024 .bf16, pt c cc0_scratch0 s)
        ∗ owing c (later c 0) ∗ bigSep Finset.univ (start (F := F) c) ∗ bigSep Finset.univ (arrivals (F := F) c) ∗ bigSep Finset.univ (pos (F := F) c))
      ⊢ iprop((ins gX gQ gK gV gO c ∗ outRows fX fQ fK fV fO c 8 ∗ (∃ s : Vec F S2048x1024 .bf16, pt c cc0_scratch0 s) ∗ owing c (later c 8)
          ∗ bigSep Finset.univ (done (oAll fX fQ fK fV fO) c) -∗ Q ⟨⟩)
        -∗ wp frame (wpE (defs₀ (F := F)) 𝒱₀ (c : Thread nD τ) none) Set.univ
          (work A0 A1 A2 A3 A4 A5 (Memref.isWhole_whole _) A6 (Memref.isWhole_whole _) A7 (Memref.isWhole_whole _) cc0_scratch2 cc0_scratch3 c) Q) := by
  by_cases h0 : c = 0
  · obtain ⟨rfl, rfl, rfl, rfl, rfl⟩ := hc h0
    subst h0
    unfold work
    rw [if_pos (show (0 : Dev nD).val = 0 from rfl), show bigSep Finset.univ (start (F := F) 0) = bigSep Finset.univ (T0 (F := F)) from bigSep_congr fun b _ => if_pos rfl]
    iintro ⟨#HI, #HL, HA, HR, HC, Hw, HT, -, HP⟩ Hk
    iapply (wp_work_0 gX gQ gK gV gO κ Q) $$ [HA HR HC Hw HT HP]
    · isplitr; · iexact HI
      isplitr; · iexact HL
      isplitl [HA]; · iexact HA
      isplitl [HR]; · iexact HR
      isplitl [HC]; · iexact HC
      isplitl [Hw]; · iexact Hw
      isplitl [HT]; · iexact HT
      iexact HP
    iexact Hk
  · unfold work
    rw [if_neg (show ¬c.val = 0 from fun h => h0 (Fin.ext h))]
    iintro ⟨#HI, #HL, HA, HR, HC, Hw, HT, Ha, HP⟩ Hk
    unfold pos
    ihave HP := unpair $$ HP
    icases HP with ⟨HP, Hat⟩
    ihave HT := pair $$ [HT Ha]
    · isplitl [HT]; · iexact HT
      iexact Ha
    ihave HT := pair $$ [HT Hat]
    · isplitl [HT]; · iexact HT
      iexact Hat
    ihave HT := (each (start_recv c h0)) $$ HT
    iapply (wp_work_1 fX fQ fK fV fO κ c h0 Q) $$ [HR Hw HT HP]
    · isplitr; · iexact HI
      isplitr; · iexact HL
      isplitl [HR]; · iexact HR
      isplitl [Hw]; · iexact Hw
      isplitl [HT]; · iexact HT
      iexact HP
    iintro ⟨HR, Hw, HD⟩
    iapply Hk
    isplitl [HA]; · iexact HA
    isplitl [HR]; · iexact HR
    isplitl [HC]; · iexact HC
    isplitl [Hw]; · iexact Hw
    iexact HD

/-! ## The whole program -/

/-- The entry barriers are ready. -/
def barReady : sProp 𝕄 := bigSep Finset.univ fun d : Dev nD => reached ER (cell d none) 0
instance barReady_persistent : BI.Persistent (barReady : sProp 𝕄) := by unfold barReady; infer_instance

/-- Every entry barrier is ready. -/
theorem bar_ready (d : Dev nD) : (barReady : sProp 𝕄) ⊢ reached ER (cell d none) 0 := bigSep_elim (Finset.mem_univ d)

/-- What a device starts with: what it owes, its tokens, its positions, the units it has coming. -/
def begins (c : Dev nD) : sProp 𝕄 :=
  iprop(barReady ∗ owing c (atStart c) ∗ toks c ∗ atPos ER (cell c none) 0 ∅ 0
    ∗ (bigSep Finset.univ fun k : Own => iprop(atPos ER (cell c (some k)) 0 ∅ 0 ∗ reached ER (cell c (some k)) 0))
    ∗ cred (tallyAt (cell c none) () 2) ∗ cred (tallyAt (cell c (some .xch)) () 2) ∗ bigSep Finset.univ (arrivals (F := F) c))

/-- What it ends with: nothing owed, all its semaphores through. -/
def ends (OF : Vec F S8x256x1024 .bf16) (c : Dev nD) : sProp 𝕄 :=
  iprop(owing c ∅ ∗ bigSep Finset.univ fun k : Key => spent OF c k)

/-- At the start a device owes both entry signals. -/
theorem start_mem (c : Dev nD) : (nb1 c, none) ∈ atStart c ∧ (nb2 c, none) ∈ atStart c := by revert c; decide +kernel
/-- After the last block a device owes both exit signals. -/
theorem end_mem (c : Dev nD) : (nb1 c, some .xch) ∈ later c 8 ∧ (nb2 c, some .xch) ∈ later c 8 := by revert c; decide +kernel
/-- A device that waits at the entry owes only what has a higher level. -/
theorem start_low (c : Dev nD) : ∀ x ∈ later c 0, lev c none < lev x.1 x.2 := by revert c; decide +kernel

set_option maxHeartbeats 4000000 in
/-- One device's program, from its share of the start to its share of the end: its result is the value. -/
theorem wp_prog (c : Dev nD) (hc : c = 0 → gX = fX ∧ gQ = fQ ∧ gK = fK ∧ gV = fV ∧ gO = fO) (Q : PUnit → sProp 𝕄) :
    iprop(shared (oAll fX fQ fK fV fO) κ ∗ levAts L lv ∗ begins c ∗ ins gX gQ gK gV gO c ∗ (∃ r : Vec F S1x2048x1024 .bf16, pt c cc0_stg5_0 r)
        ∗ (∃ s : Vec F S2048x1024 .bf16, pt c cc0_scratch0 s) ∗ (∃ f : Vec F S8x256x1024 .bf16, pt c cc0_scratch1 f))
      ⊢ iprop((ends (oAll fX fQ fK fV fO) c ∗ ins gX gQ gK gV gO c ∗ pt c cc0_stg5_0 (rAll fX fQ fK fV fO)
          ∗ (∃ s : Vec F S2048x1024 .bf16, pt c cc0_scratch0 s) ∗ (∃ f : Vec F S8x256x1024 .bf16, pt c cc0_scratch1 f) -∗ Q ⟨⟩)
        -∗ wp frame (wpE (defs₀ (F := F)) 𝒱₀ (c : Thread nD τ) none) Set.univ
          (prog A0 A1 A2 A3 A4 A5 (Memref.isWhole_whole _) A6 (Memref.isWhole_whole _) A7 (Memref.isWhole_whole _) cc0_scratch2 cc0_scratch3 cc0_scoped0 c) Q) := by
  have er : bigSep Finset.univ (fun k : Own => (iprop(atPos ER (cell c (some k)) 0 ∅ 0 ∗ reached ER (cell c (some k)) 0) : sProp 𝕄))
      = iprop((atPos ER (cell c (some .xch)) 0 ∅ 0 ∗ bigSep Finset.univ fun b : Fin 8 => iprop(atPos ER (cell c (some (.snd 0 b))) 0 ∅ 0 ∗ atPos ER (cell c (some (.snd 1 b))) 0 ∅ 0 ∗ atPos ER (cell c (some (.rcv b))) 0 ∅ 0))
        ∗ (reached ER (cell c (some .xch)) 0 ∗ bigSep Finset.univ fun b : Fin 8 => iprop(reached ER (cell c (some (.snd 0 b))) 0 ∗ reached ER (cell c (some (.snd 1 b))) 0 ∗ reached ER (cell c (some (.rcv b))) 0))) := by
    rw [bigSep_sep', bigSep_own, bigSep_own]
  have es : bigSep Finset.univ (fun k : Key => spent (oAll fX fQ fK fV fO) c k)
      = iprop(spent (oAll fX fQ fK fV fO) c none ∗ spent (oAll fX fQ fK fV fO) c (some .xch) ∗ bigSep Finset.univ fun b : Fin 8 => iprop(spent (oAll fX fQ fK fV fO) c (some (.snd 0 b)) ∗ spent (oAll fX fQ fK fV fO) c (some (.snd 1 b)) ∗ spent (oAll fX fQ fK fV fO) c (some (.rcv b)))) := by
    rw [bigSep_key, bigSep_own]
  unfold prog begins ends owing
  rw [er, es]
  iintro ⟨#HI, #HL, ⟨#HB, ⟨%W, Hw⟩, HT, Hn, ⟨⟨Hx, Hp⟩, ⟨#Rx, #Rb⟩⟩, Cn, Cx, Ca⟩, HA, HR, HC, ⟨%f7, H7⟩⟩ Hk
  ihave HT := (use_toks c) $$ HT
  unfold useToks
  icases HT with ⟨⟨N1, X1⟩, ⟨N2, X2⟩, HT⟩
  ihave H7 := (show pt c cc0_scratch1 f7 ⊢ bigSep Finset.univ (fun b : Fin 8 => free c b) from by
    rw [out_split]; exact each fun b => by iintro H; iexists f7; iexact H) $$ H7
  ihave Rb := unpair $$ Rb
  icases Rb with ⟨#R0, Rb⟩
  ihave Rb := unpair $$ Rb
  icases Rb with ⟨#R1, #Rr⟩
  ihave H7 := (give_out c) $$ [H7]
  · isplitr; · iexact Rr
    isplitr; · iexact Rx
    iexact H7
  icases H7 with ⟨P1, P2, H7⟩
  rw [wp_bind]
  iapply (wp_barrier (oAll fX fQ fK fV fO) κ c none _ rfl rfl (fun _ _ => Iff.rfl) (atStart c) (later c 0) (start_mem c).1 (start_mem c).2 (start_paid c) (start_low c) W _)
      $$ [Hw N1 N2 P1 P2 Cn Hn]
  · isplitr; · iexact HI
    isplitr; · iexact HL
    isplitl [Hw]; · iexact Hw
    isplitl [N1 P1]
    · isplitl [N1]; · iexact N1
      isplitl [P1]; · iapply (Entails.of_eq (show barPay (nb1 c) c = pay (oAll fX fQ fK fV fO) (nb1 c) c none from rfl)); iexact P1
      iapply (bar_ready (nb1 c)); iexact HB
    isplitl [N2 P2]
    · isplitl [N2]; · iexact N2
      isplitl [P2]; · iapply (Entails.of_eq (show barPay (nb2 c) c = pay (oAll fX fQ fK fV fO) (nb2 c) c none from rfl)); iexact P2
      iapply (bar_ready (nb2 c)); iexact HB
    isplitl [Cn]; · iexact Cn
    iexact Hn
  iintro ⟨Hw, Hn, P1, P2⟩
  ihave P1 := (Entails.of_eq (show pay (oAll fX fQ fK fV fO) c (nb1 c) none = iprop(bigSep Finset.univ (give (F := F) c (nb1 c)) ∗ reached ER (cell (nb1 c) (some .xch)) 0) from rfl)) $$ P1
  ihave P2 := (Entails.of_eq (show pay (oAll fX fQ fK fV fO) c (nb2 c) none = iprop(bigSep Finset.univ (give (F := F) c (nb2 c)) ∗ reached ER (cell (nb2 c) (some .xch)) 0) from rfl)) $$ P2
  icases P1 with ⟨P1, #Rx1⟩
  icases P2 with ⟨P2, #Rx2⟩
  ihave HT := pair $$ [HT P1]
  · isplitl [HT]; · iexact HT
    iexact P1
  ihave P2 := pair $$ [P2 H7]
  · isplitl [P2]; · iexact P2
    iexact H7
  ihave HT := pair $$ [HT P2]
  · isplitl [HT]; · iexact HT
    iexact P2
  ihave RR := pair $$ [R0 R1]
  · isplitr; · iexact R0
    iexact R1
  ihave HT := pair $$ [RR HT]
  · isplitl [RR]; · iexact RR
    iexact HT
  ihave HT := (each (gather c)) $$ HT
  rw [wp_bind]
  iapply (wp_work fX fQ fK fV fO κ gX gQ gK gV gO c hc _) $$ [HA HR HC Hw HT Ca Hp]
  · isplitr; · iexact HI
    isplitr; · iexact HL
    isplitl [HA]; · iexact HA
    isplitl [HR]; · iexact HR
    isplitl [HC]; · iexact HC
    isplitl [Hw]; · unfold owing; iexact Hw
    isplitl [HT]; · iexact HT
    isplitl [Ca]; · iexact Ca
    iapply (each fun b => ?_) $$ Hp
    unfold pos ats
    iintro ⟨H0, H1, H2⟩
    isplitl [H0 H1]
    · isplitl [H0]; · iexact H0
      iexact H1
    iexact H2
  unfold owing outRows
  iintro ⟨HA, ⟨%r, %hr, HR⟩, HC, ⟨%W', Hw⟩, HD⟩
  iapply (wp_barrier (oAll fX fQ fK fV fO) κ c (some .xch) _ rfl rfl (fun _ _ => Iff.rfl) (later c 8) ∅ (end_mem c).1 (end_mem c).2 (later_end c)
      (fun x h => absurd h (Finset.notMem_empty x)) W' _) $$ [Hw X1 X2 Cx Hx]
  · isplitr; · iexact HI
    isplitr; · iexact HL
    isplitl [Hw]; · iexact Hw
    isplitl [X1]
    · isplitl [X1]; · iexact X1
      isplitr
      · unfold pay; iempintro
      iexact Rx1
    isplitl [X2]
    · isplitl [X2]; · iexact X2
      isplitr
      · unfold pay; iempintro
      iexact Rx2
    isplitl [Cx]; · iexact Cx
    iexact Hx
  iintro ⟨Hw, Hx, -, -⟩
  unfold done
  ihave HD := unpair $$ HD
  icases HD with ⟨H7, HD⟩
  iapply Hk
  isplitl [Hw Hn Hx HD]
  · isplitl [Hw]; · iexact Hw
    isplitl [Hn]; · iapply (spent_one (oAll fX fQ fK fV fO) c none); iexact Hn
    isplitl [Hx]; · iapply (spent_one (oAll fX fQ fK fV fO) c (some .xch)); iexact Hx
    iexact HD
  isplitl [HA]; · iexact HA
  isplitl [HR]
  · rw [← rows_all fX fQ fK fV fO hr]; iexact HR
  isplitl [HC]; · iexact HC
  iexists (oAll fX fQ fK fV fO)
  rw [out_split]
  iexact H7

end Work

end Cert.KernelIdeal.Blocks

end
-- ==== Proof.Region.lean ====
/- The kernel's region: what each device brings to it, what it leaves, and that the printed body takes the one to the other. -/
module

public import proofs.«01_k».proof.Proof.Device
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.RegionArraysS
public import Idealize.ShloMosaic.Lib.Pipeline.FrameBody
public import Idealize.ShloMosaic.Lib.Pipeline.ValueKit
public import Idealize.ShloMosaic.Lib.Rounds.Family

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The operands -/

/-- Device `c`'s buffers at the launch, and after the host operations before the kernel. -/
abbrev V₀ (c : Dev nD) : Valuation τ sig (Elt F) := fun b => m (c, b)
/-- A device's arrays when the kernel is called. -/
abbrev V₁ (c : Dev nD) : Valuation τ sig (Elt F) := StableHlo.after hostOps0 (V₀ m c)

/-- Device `c`'s operands of the kernel: the rows, the query weights, the keys, the values, the output weights. -/
abbrev inX (c : Dev nD) : Vec F S2048x1024 .bf16 := V₁ m c (Proc.devRef .tc main_v1)
/-- The query weights that the kernel is given. -/
abbrev inQ (c : Dev nD) : Vec F S1024x1024 .bf16 := V₁ m c (Proc.devRef .tc main_arg1)
/-- The keys that the kernel is given. -/
abbrev inK (c : Dev nD) : Vec F S8x2048x128 .bf16 := V₁ m c (Proc.devRef .tc main_v3)
/-- The values that the kernel is given. -/
abbrev inV (c : Dev nD) : Vec F S8x2048x128 .bf16 := V₁ m c (Proc.devRef .tc main_v5)
/-- The output weights that the kernel is given. -/
abbrev inO (c : Dev nD) : Vec F S1024x1024 .bf16 := V₁ m c (Proc.devRef .tc main_arg4)

/-- What is passed round, and every device's result: device 0's. -/
abbrev outOf : Vec F S8x256x1024 .bf16 := oAll (inX m 0) (inQ m 0) (inK m 0) (inV m 0) (inO m 0)
/-- The result: what device 0 computes of its own inputs. -/
abbrev resOf : Vec F S1x2048x1024 .bf16 := rAll (inX m 0) (inQ m 0) (inK m 0) (inV m 0) (inO m 0)

/-! ## What a device brings and leaves -/

/-- What device `c` begins with, short of what it owes. -/
def opens (c : Dev nD) : sProp 𝕄 :=
  iprop(barReady ∗ toks c ∗ atPos ER (cell c none) 0 ∅ 0
    ∗ (bigSep Finset.univ fun k : Own => iprop(atPos ER (cell c (some k)) 0 ∅ 0 ∗ reached ER (cell c (some k)) 0))
    ∗ cred (tallyAt (cell c none) () 2) ∗ cred (tallyAt (cell c (some .xch)) () 2) ∗ bigSep Finset.univ (arrivals (F := F) c))

/-- The buffers no window stages. -/
def scratches (c : Dev nD) : sProp 𝕄 :=
  iprop((∃ s : Vec F S2048x1024 .bf16, pt c cc0_scratch0 s) ∗ (∃ f : Vec F S8x256x1024 .bf16, pt c cc0_scratch1 f))

/-- Before the kernel's body, and after it. -/
def before (c : Dev nD) : sProp 𝕄 :=
  iprop((∃ κ, shared (outOf m) κ) ∗ levAts L lv ∗ opens c ∗ scratches c ∗ ∃ r, prngReg c r)
/-- What a device holds when the kernel has run. -/
def after (c : Dev nD) : sProp 𝕄 :=
  iprop(Pipeline.ownSems0 own c ∗ semVal (cell c none) 0 ∗ scratches c ∗ ∃ r, prngReg c r)

/-- The region's data: the arrays as found, the staged operands left as they are, the staged result the value. -/
def dat (c : Dev nD) : Dat τ (Elt F) Unit ℕ UU ℕ cfg0 c where
  A w := V₁ m c (Proc.devRef .tc (Pipeline.arrRef spec0 w))
  after
    | 0 => fun _ => inX m c
    | 1 => fun _ => inQ m c
    | 2 => fun _ => inK m c
    | 3 => fun _ => inV m c
    | 4 => fun _ => inO m c
    | 5 => fun _ => resOf m
    | ⟨_ + 6, h⟩ => absurd h (Nat.not_lt.2 (Nat.le_add_left _ _))
  Φ t := if t.val = 0 then before m c else after c
  q _ := fullShare
  owed t := if t.val = 0 then owe (atStart c) else 0

/-- The call's staging is admissible. -/
abbrev adm : (p : Fin 1) → (pcfgs (F := F) p).Adm := fun p => (cfgs p).toPCfg_adm
/-- The run's assertions, for the one call of the program. -/
def pdats (p : Fin 1) (c : Dev nD) : Dat τ (Elt F) Unit ℕ UU ℕ (Pipeline.pin (pcfgs (F := F)) adm p) c := dat m c

/-- Before the kernel's only step. -/
theorem Φ_first (c : Dev nD) : (dat m c).Φ t0_0.castSucc = before m c := by
  show (if (t0_0.castSucc : Fin (cfg0.N + 1)).val = 0 then before m c else after c) = _; exact if_pos rfl
/-- After the kernel's only step. -/
theorem Φ_next (c : Dev nD) : (dat m c).Φ t0_0.succ = after c := by
  show (if (t0_0.succ : Fin (cfg0.N + 1)).val = 0 then before m c else after c) = _; exact if_neg (by decide)
/-- At the call's end. -/
theorem Φ_last (c : Dev nD) : (dat m c).Φ (Fin.last cfg0.N) = after c := by
  show (if (Fin.last cfg0.N).val = 0 then before m c else after c) = _
  rw [Fin.val_last, if_neg (by rw [show cfg0.N = 1 from N_0]; decide)]
/-- Before its only step a device owes all that it owes at the start. -/
theorem owed_first (c : Dev nD) : (dat m c).owed t0_0.castSucc = owe (atStart c) := by
  show (if (t0_0.castSucc : Fin (cfg0.N + 1)).val = 0 then owe (atStart c) else 0) = _; exact if_pos rfl
/-- After its only step a device owes nothing. -/
theorem owed_next (c : Dev nD) : (dat m c).owed t0_0.succ = 0 := by
  show (if (t0_0.succ : Fin (cfg0.N + 1)).val = 0 then owe (atStart c) else 0) = _; exact if_neg (by decide)
/-- At the call's start a device owes all that it owes at the start. -/
theorem owed_zero (c : Dev nD) : (dat m c).owed 0 = owe (atStart c) := by
  show (if ((0 : Fin (cfg0.N + 1)).val = 0) then owe (atStart c) else 0) = _; exact if_pos rfl
/-- At the call's end a device owes nothing. -/
theorem owed_last (c : Dev nD) : (dat m c).owed (Fin.last cfg0.N) = 0 := by
  show (if (Fin.last cfg0.N).val = 0 then owe (atStart c) else 0) = _
  rw [Fin.val_last, if_neg (by rw [show cfg0.N = 1 from N_0]; decide)]

/-! ## The windows: each is its whole array -/

/-- A window at block zero takes its array as it is. -/
theorem emb_all (w : Pipeline.Window sig grid0) (h : ∀ a, w.index t0_0 a = 0) (j : (w.xblock (grid0.coords t0_0)).Idx) (a : Fin w.shape.rank) :
    ((w.rect t0_0).emb j a).val = (j a).val := Pipeline.Window.rect_emb_val_of_index_zero _ _ _ (h a) j

/-- The first window is the whole of the input rows. -/
theorem found_0 (c : Dev nD) (f : Vec F S2048x1024 .bf16) : ((cfg0.win 0).blk t0_0).view.read (Elt F) (f : Buf (Elt F) ((c : Thread nD τ).loc main_v1)) = f := by
  funext j; exact congrArg f (funext fun a => Fin.ext (emb_all win0_0 (by decide +kernel) j a))
/-- The second window is the whole of the query weights. -/
theorem found_1 (c : Dev nD) (f : Vec F S1024x1024 .bf16) : ((cfg0.win 1).blk t0_0).view.read (Elt F) (f : Buf (Elt F) ((c : Thread nD τ).loc main_arg1)) = f := by
  funext j; exact congrArg f (funext fun a => Fin.ext (emb_all win0_1 (by decide +kernel) j a))
/-- The third window is the whole of the keys. -/
theorem found_2 (c : Dev nD) (f : Vec F S8x2048x128 .bf16) : ((cfg0.win 2).blk t0_0).view.read (Elt F) (f : Buf (Elt F) ((c : Thread nD τ).loc main_v3)) = f := by
  funext j; exact congrArg f (funext fun a => Fin.ext (emb_all win0_2 (by decide +kernel) j a))
/-- The fourth window is the whole of the values. -/
theorem found_3 (c : Dev nD) (f : Vec F S8x2048x128 .bf16) : ((cfg0.win 3).blk t0_0).view.read (Elt F) (f : Buf (Elt F) ((c : Thread nD τ).loc main_v5)) = f := by
  funext j; exact congrArg f (funext fun a => Fin.ext (emb_all win0_3 (by decide +kernel) j a))
/-- The fifth window is the whole of the output weights. -/
theorem found_4 (c : Dev nD) (f : Vec F S1024x1024 .bf16) : ((cfg0.win 4).blk t0_0).view.read (Elt F) (f : Buf (Elt F) ((c : Thread nD τ).loc main_arg4)) = f := by
  funext j; exact congrArg f (funext fun a => Fin.ext (emb_all win0_4 (by decide +kernel) j a))

/-- The kernel finds the input rows. -/
theorem staged_0 (c : Dev nD) (d) : (dat m c).before 0 t0_0 d = inX m c :=
  ((dat m c).before_in_eq_fetched 0 rfl (fun _ => rfl) (fun _ _ _ => rfl) (fun t => by rw [fin_N0 t]; exact (found_0 c (inX m c)).symm) t0_0 d).trans (found_0 c (inX m c))
/-- The kernel finds the query weights. -/
theorem staged_1 (c : Dev nD) (d) : (dat m c).before 1 t0_0 d = inQ m c :=
  ((dat m c).before_in_eq_fetched 1 rfl (fun _ => rfl) (fun _ _ _ => rfl) (fun t => by rw [fin_N0 t]; exact (found_1 c (inQ m c)).symm) t0_0 d).trans (found_1 c (inQ m c))
/-- The kernel finds the keys. -/
theorem staged_2 (c : Dev nD) (d) : (dat m c).before 2 t0_0 d = inK m c :=
  ((dat m c).before_in_eq_fetched 2 rfl (fun _ => rfl) (fun _ _ _ => rfl) (fun t => by rw [fin_N0 t]; exact (found_2 c (inK m c)).symm) t0_0 d).trans (found_2 c (inK m c))
/-- The kernel finds the values. -/
theorem staged_3 (c : Dev nD) (d) : (dat m c).before 3 t0_0 d = inV m c :=
  ((dat m c).before_in_eq_fetched 3 rfl (fun _ => rfl) (fun _ _ _ => rfl) (fun t => by rw [fin_N0 t]; exact (found_3 c (inV m c)).symm) t0_0 d).trans (found_3 c (inV m c))
/-- The kernel finds the output weights. -/
theorem staged_4 (c : Dev nD) (d) : (dat m c).before 4 t0_0 d = inO m c :=
  ((dat m c).before_in_eq_fetched 4 rfl (fun _ => rfl) (fun _ _ _ => rfl) (fun t => by rw [fin_N0 t]; exact (found_4 c (inO m c)).symm) t0_0 d).trans (found_4 c (inO m c))

/-- The result's array after the region. -/
theorem left_5 (c : Dev nD) : (dat m c).arrAt 5 cfg0.N = resOf m := by
  refine (dat m c).arrAt_eq_of_after_last 5 t0_0 (by decide +kernel) _ fun j => ?_
  rfl

/-! ## The semaphores at the end -/

/-- Nothing left to pay is nothing owed. -/
theorem owe_none : owe (∅ : Finset (Dev nD × Key)) = 0 := rfl

/-- A spent semaphore is at zero. -/
theorem close_one (κ : GSem nD τ sig → ℕ) (OF : Vec F S8x256x1024 .bf16) (c : Dev nD) (k : Key) :
    iprop(shared OF κ ∗ spent OF c k) ⊢ (|={Set.univ}=> semVal (cell c k) 0 : sProp 𝕄) := by
  unfold spent
  iintro ⟨#HI, ⟨%R, %hR, Hat⟩⟩
  imod (Rounds.cell_close ER (Rd OF) (Set.mem_univ (κ (cell c k))) (fun h => h) hR) $$ [Hat] with Hz
  · isplitr; · iapply (inv_at OF κ c k); iexact HI
    iexact Hat
  imodintro; iexact Hz

/-- All of a device's semaphores end at zero. -/
theorem close_all (κ : GSem nD τ sig → ℕ) (OF : Vec F S8x256x1024 .bf16) (c : Dev nD) :
    iprop(shared OF κ ∗ bigSep Finset.univ fun k : Key => spent OF c k)
      ⊢ (|={Set.univ}=> iprop(semVal (cell c none) 0 ∗ Pipeline.ownSems0 own c) : sProp 𝕄) := by
  have h : iprop(shared OF κ ∗ bigSep Finset.univ fun k : Key => spent OF c k)
      ⊢ (|={Set.univ}=> bigSep Finset.univ fun k : Key => semVal (cell c k) 0 : sProp 𝕄) :=
    (bigSep_with_persistent fun k _ => close_one κ OF c k).trans (bigSep_fupd _ _)
  rw [bigSep_key] at h
  exact h

/-- What a device owes, as the call's assertion. -/
theorem owesAt_of (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound; rw [h]
  iintro HO; iexists W; isplitr; · ipureintro; exact fun _ _ => Or.inl trivial
  iexact HO
/-- The call's assertion, as what a device owes. -/
theorem of_owesAt (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## The body -/

/-- A staged buffer, as the region hands it over. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxHeartbeats 2000000 in
/-- The kernel's body keeps its assertions. -/
theorem body_of (c : Dev nD) : BodyObligation (dat m c) (defs₀ (F := F)) 𝒱₀ () Set.univ := fun t => by
  rw [fin_N0 t]
  rw [bigSep_W0, bigSep_W0]
  simp only [owns_whole_eq]
  rw [Φ_first, Φ_next]
  show iprop(before m c ∗ (dat m c).owesAt () t0_0.castSucc
      ∗ (∃ d, stg c cc0_stg0_0 ((dat m c).before 0 t0_0 d)) ∗ (∃ d, stg c cc0_stg1_0 ((dat m c).before 1 t0_0 d))
      ∗ (∃ d, stg c cc0_stg2_0 ((dat m c).before 2 t0_0 d)) ∗ (∃ d, stg c cc0_stg3_0 ((dat m c).before 3 t0_0 d))
      ∗ (∃ d, stg c cc0_stg4_0 ((dat m c).before 4 t0_0 d)) ∗ (∃ d, stg c cc0_stg5_0 ((dat m c).before 5 t0_0 d)))
    ⊢ wp frame (wpE (defs₀ (F := F)) 𝒱₀ (c : Thread nD τ) none) Set.univ
      (cc0_body A0 (Memref.isWhole_whole _) A1 (Memref.isWhole_whole _) A2 (Memref.isWhole_whole _) A3 (Memref.isWhole_whole _) A4 (Memref.isWhole_whole _)
        A5 (Memref.isWhole_whole _) A6 (Memref.isWhole_whole _) A7 (Memref.isWhole_whole _) cc0_scratch2 cc0_scratch3 cc0_scoped0)
      (fun _ => iprop(after c ∗ (dat m c).owesAt () t0_0.succ
        ∗ stg c cc0_stg0_0 (inX m c) ∗ stg c cc0_stg1_0 (inQ m c) ∗ stg c cc0_stg2_0 (inK m c) ∗ stg c cc0_stg3_0 (inV m c)
        ∗ stg c cc0_stg4_0 (inO m c) ∗ stg c cc0_stg5_0 (resOf m)))
  rw [body_eq]
  simp only [wp_deviceId]
  rw [tail_eq]
  unfold before
  iintro ⟨⟨⟨%κ, #HI⟩, #HL, Ho, Hs, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [staged_0] at h0
  rw [staged_1] at h1
  rw [staged_2] at h2
  rw [staged_3] at h3
  rw [staged_4] at h4
  subst h0 h1 h2 h3 h4
  ihave HO := (of_owesAt m c _ _ (owed_first m c)) $$ HO
  unfold scratches opens
  icases Hs with ⟨Hs0, Hs1⟩
  icases Ho with ⟨#Hb, Ht, Hat⟩
  iapply (wp_fupd frame _ Set.univ _ _)
  iapply (wp_prog (inX m 0) (inQ m 0) (inK m 0) (inV m 0) (inO m 0) κ (inX m c) (inQ m c) (inK m c) (inV m c) (inO m c) c
    (fun h => by subst h; exact ⟨rfl, rfl, rfl, rfl, rfl⟩)) $$ [Ht Hat Hs0 Hs1 HO H0 H1 H2 H3 H4 H5]
  · isplitr; · iexact HI
    isplitr; · iexact HL
    isplitl [Ht Hat HO]
    · unfold begins owing
      isplitr; · iexact Hb
      isplitl [HO]; · iexact HO
      isplitl [Ht]; · iexact Ht
      iexact Hat
    isplitl [H0 H1 H2 H3 H4]
    · unfold ins
      isplitl [H0]; · iexact H0
      isplitl [H1]; · iexact H1
      isplitl [H2]; · iexact H2
      isplitl [H3]; · iexact H3
      iexact H4
    isplitl [H5]; · iexists f5; iexact H5
    isplitl [Hs0]; · iexact Hs0
    iexact Hs1
  unfold ends ins owing
  iintro ⟨⟨⟨%W, HO⟩, Hk⟩, ⟨H0, H1, H2, H3, H4⟩, H5, Hs0, Hs1⟩
  imod (close_all κ (outOf m) c) $$ [Hk] with ⟨Hz, Hown⟩
  · isplitr; · iexact HI
    iexact Hk
  imodintro
  unfold after scratches
  isplitl [Hz Hown Hs0 Hs1 Hr]
  · isplitl [Hown]; · iexact Hown
    isplitl [Hz]; · iexact Hz
    isplitl [Hs0 Hs1]
    · isplitl [Hs0]; · iexact Hs0
      iexact Hs1
    iexact Hr
  isplitl [HO]
  · iapply (owesAt_of m c _ _ (owed_next m c) W)
    rw [← owe_none]; iexact HO
  isplitl [H0]; · iexists inX m c; isplitr; · ipureintro; rfl
                  iexact H0
  isplitl [H1]; · iexists inQ m c; isplitr; · ipureintro; rfl
                  iexact H1
  isplitl [H2]; · iexists inK m c; isplitr; · ipureintro; rfl
                  iexact H2
  isplitl [H3]; · iexists inV m c; isplitr; · ipureintro; rfl
                  iexact H3
  isplitl [H4]; · iexists inO m c; isplitr; · ipureintro; rfl
                  iexact H4
  iexists resOf m; isplitr; · ipureintro; rfl
  iexact H5

/-! ## The region -/

/-- The semaphores that the call allocates are a device's own. -/
theorem own_facts : Pipeline.OwnSemFacts spec0 own := by decide +kernel

/-- All that a device owes at the start lies above level zero. -/
theorem starts_pos : ∀ (c : Dev nD), ∀ x ∈ atStart c, 0 < lev x.1 x.2 := by decide +kernel

/-- The facts that the call's launch needs. -/
theorem kit : Pipeline.PLaunchFacts (nD := nD) (τ := τ) (pcfgs (F := F)) 0 :=
  { cellOf_inj := fun a => by rw [Subsingleton.elim a adm]; exact cellOf_inj
    win := winFacts0
    pre := Pipeline.PreFacts.none _
    block_pos := block_pos0
    arr_whole := arr_whole0
    stage_whole := stage_whole0 }

/-- What device `c` keeps from the launch for the region. -/
def keeps (c : Dev nD) : sProp 𝕄 :=
  iprop((∃ κ, shared (outOf m) κ) ∗ barReady ∗ toks c ∗ atPos ER (cell c none) 0 ∅ 0
    ∗ (bigSep Finset.univ fun k : Own => openTok ER (cell c (some k)))
    ∗ cred (tallyAt (cell c none) () 2) ∗ cred (tallyAt (cell c (some .xch)) () 2) ∗ bigSep Finset.univ (arrivals (F := F) c))

/-- What it enters the body with. -/
def enters (c : Dev nD) : sProp 𝕄 := iprop((∃ κ, shared (outOf m) κ) ∗ levAts L lv ∗ opens c)

/-- What it keeps afterwards: its entry barrier at zero. -/
def rests (c : Dev nD) : sProp 𝕄 := semVal (cell c none) 0

/-- The invariants and the right to open of each of a device's own semaphores. -/
theorem cells_of (OF : Vec F S8x256x1024 .bf16) (κ : GSem nD τ sig → ℕ) (c : Dev nD) :
    iprop(shared OF κ ∗ bigSep Finset.univ fun k : Own => openTok ER (cell c (some k)))
      ⊢ (bigSep Finset.univ fun k : Own => iprop(cellInv ER (Rd OF) (κ (cell c (some k))) (cell c (some k)) ∗ openTok ER (cell c (some k))) : sProp 𝕄) :=
  bigSep_with_persistent fun k _ => by
    iintro ⟨#HI, Hk⟩
    isplitr; · iapply (inv_at OF κ c (some k)); iexact HI
    iexact Hk

/-- At the call's start the allocated semaphores join the protocol. -/
theorem open_region (c : Dev nD) : iprop(keeps m c ∗ Pipeline.ownSems0 own c ∗ levAts L lv) ⊢ (|={Set.univ}=> enters m c : sProp 𝕄) := by
  unfold keeps enters opens
  iintro ⟨⟨⟨%κ, #HI⟩, #Hb, Ht, Hat, Ho, Hc⟩, Hz, #HL⟩
  imod (Rounds.cells_open ER (Rd (outOf m)) Finset.univ (fun k : Own => cell c (some k)) (fun k => κ (cell c (some k))) (Es := Set.univ)
    (fun _ _ => Set.mem_univ _)) $$ [Ho Hz] with Hk
  · isplitl [Ho]
    · iapply (cells_of (outOf m) κ c)
      isplitr; · iexact HI
      iexact Ho
    unfold Pipeline.ownSems0; iexact Hz
  imodintro
  isplitr; · iexists κ; iexact HI
  isplitr; · iexact HL
  isplitr; · iexact Hb
  isplitl [Ht]; · iexact Ht
  isplitl [Hat]; · iexact Hat
  isplitl [Hk]; · iexact Hk
  iexact Hc

/-- Holding no arrays is holding nothing. -/
theorem held_none (c : Dev nD) (V : Valuation τ sig (Elt F)) : (StableHlo.held (c.tc : Thread nD τ) ∅ V : sProp 𝕄) = iprop(emp) := rfl

/-- What a device holds at the call gives the assertion before its only step. -/
theorem enter (c : Dev nD) : iprop(Pipeline.scopedRest (Pipeline.pin (pcfgs (F := F)) adm 0).spec c ∗ (∃ r, prngReg c r) ∗ StableHlo.held (c.tc : Thread nD τ) ∅ (V₁ m c) ∗ enters m c)
    ⊢ (pdats m 0 c).Φ 0 := by
  rw [show (pdats m 0 c).Φ 0 = before m c from rfl,
    show (Pipeline.scopedRest (Pipeline.pin (pcfgs (F := F)) adm 0).spec c : sProp 𝕄) = scratches c from scopedRest0_eq c]
  unfold before enters
  iintro ⟨Hs, Hp, -, HI, HL, Ho⟩
  isplitl [HI]; · iexact HI
  isplitl [HL]; · iexact HL
  isplitl [Ho]; · iexact Ho
  isplitl [Hs]; · iexact Hs
  iexact Hp

/-- The valuation after the region: the result's array rewritten. -/
abbrev V₂ (c : Dev nD) : Valuation τ sig (Elt F) := Pipeline.afterRegion (dat m c) (V₁ m c)

/-- The assertion after the only step gives what a device holds after the call. -/
theorem exit (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 own c ∗ rests c) := by
  rw [show (pdats m 0 c).Φ (Fin.last (Pipeline.pin (pcfgs (F := F)) adm 0).N) = after c from Φ_last m c,
    show (Pipeline.scopedRest (Pipeline.pin (pcfgs (F := F)) adm 0).spec c : sProp 𝕄) = scratches c from scopedRest0_eq c]
  unfold after rests
  iintro ⟨Ho, Hz, Hs, Hp⟩
  isplitl [Hs]; · iexact Hs
  isplitl [Hp]; · iexact Hp
  isplitr; · iempintro
  isplitl [Ho]; · iexact Ho
  iexact Hz

/-- The staging's semaphores are not among the protocol's. -/
theorem staged_low : ∀ (w : Fin 6) (s : Fin (win0 w).nbuf), key (.dma ((win0 w).sem s)) = none := fun w s =>
  dif_neg fun ⟨k, hk⟩ => match k, hk with
    | none, hk => nomatch hk
    | some k, hk => own_facts.disj k w s hk

/-- The staging semaphores lie at level zero. -/
theorem cut_staged (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  have h : key (.dma (((Pipeline.pin (pcfgs (F := F)) adm 0).win w).sem s)) = none := staged_low w s
  show (match key (.dma (((Pipeline.pin (pcfgs (F := F)) adm 0).win w).sem s)) with | some k => lev c k | none => 0) ≤ 0
  rw [h]

/-- What a device owes lies above level zero. -/
theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owe (atStart c) else 0 := rfl
  rw [e] at h
  split at h
  · obtain ⟨x, hx, rfl⟩ := owe_pos h
    exact ⟨by rw [L_tc]; exact Finset.mem_singleton_self _, by rw [lv_cell]; exact starts_pos c x hx⟩
  · exact absurd h (Nat.lt_irrefl 0)

/-- Every window is held whole. -/
theorem full (c : Dev nD) (w : Fin 6) : (dat m c).share w = fullShare := by
  unfold Dat.share; split <;> rfl

/-- The unscoped buffers that are no window's array. -/
abbrev others : Finset (DevRef τ sig) := Pipeline.ucRefs τ sig \ Pipeline.arrRefs spec0

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 own own_facts
    ∅ others (Finset.empty_subset _) kit rfl (fun c => (body_of m c).loose)
    (fun _ => 0) (fun c => owe (atStart c)) (fun c => (owed_zero m c).trans (zero_add _).symm) (owed_last m) (fun _ => rfl) (full m)
    (V₁ m) (V₂ m) (fun c b hb => Pipeline.afterRegion_off (dat m c) (V₁ m c) (Pipeline.ucRefs τ sig) b (by rwa [Finset.sdiff_empty] at hb))
    (keeps m) rests (enters m) rests (open_region m) (enter m) (exit m)
    (fun c => by iintro H; imodintro; iexact H)
    (fun _ => 0)
    ⟨fun c w s => by rw [L_tc]; exact Finset.mem_singleton_self _, cut_staged, cut_owed m⟩
    (fun _ => iprop(emp))
    (fun c w => rfl) (fun c w => (Pipeline.afterRegion_arr (dat m c) (V₁ m c) winFacts0.arr_inj w).symm)

end Cert.KernelIdeal.Blocks

end
-- ==== Proof.Run.lean ====
/- The launch and the run of the whole program: every device's result is device 0's value, its arguments are unchanged, and every semaphore ends at zero. -/
module

public import proofs.«01_k».proof.Proof.Region
public import proofs.«01_k».proof.Proof.Gen.KernelIdeal.Frame
public import Idealize.ShloMosaic.Lib.Quiescent

@[expose] public section

noncomputable section

namespace Cert.KernelIdeal.Blocks

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The entry barriers among the semaphores. -/
def barEmb : Dev nD ↪ GSem nD τ sig := ⟨fun c => cell c none, fun _ _ h => (cell_inj h).1⟩
/-- The allocated semaphores among the semaphores. -/
def ownEmb : Dev nD × Own ↪ GSem nD τ sig :=
  ⟨fun x => cell x.1 (some x.2), fun _ _ h => Prod.ext (cell_inj h).1 (Option.some.inj (cell_inj h).2)⟩
/-- The duties of all devices. -/
def tokEmb : Dev nD × (Dev nD × Key) ↪ GSem nD τ sig × ℕ × Dev nD :=
  ⟨fun x => (cell x.2.1 x.2.2, 0, x.1), fun _ _ h =>
    Prod.ext (congrArg (fun t => t.2.2) h) (Prod.ext (cell_inj (congrArg Prod.fst h)).1 (cell_inj (congrArg Prod.fst h)).2)⟩

/-- The entry barrier's cells, ready at the launch; the kernel's own, opened when it is entered; every token. -/
abbrev barCells : Finset (GSem nD τ sig) := Finset.univ.map barEmb
/-- The allocated semaphores. -/
abbrev ownCells : Finset (GSem nD τ sig) := Finset.univ.map ownEmb
/-- All the duties. -/
abbrev allToks : Finset (GSem nD τ sig × ℕ × Dev nD) := Finset.univ.map tokEmb

/-- The entry barriers are not among the allocated semaphores. -/
theorem cells_apart : Disjoint barCells ownCells := by
  rw [Finset.disjoint_left]
  rintro g h1 h2
  obtain ⟨c, -, rfl⟩ := Finset.mem_map.mp h1
  obtain ⟨x, -, h⟩ := Finset.mem_map.mp h2
  exact absurd (cell_inj h).2 (fun h => nomatch h)

/-- Every semaphore of the protocol is an entry barrier or an allocated one. -/
theorem cell_mem (c : Dev nD) : (k : Key) → cell c k ∈ barCells ∪ ownCells
  | none => Finset.mem_union_left _ (Finset.mem_map_of_mem barEmb (Finset.mem_univ c))
  | some k => Finset.mem_union_right _ (Finset.mem_map_of_mem ownEmb (Finset.mem_univ (c, k)))

/-- The invariants of all semaphores. -/
theorem shared_of (OF : Vec F S8x256x1024 .bf16) (κ : GSem nD τ sig → ℕ) :
    (bigSep (barCells ∪ ownCells) fun g => (cellInv ER (Rd OF) (κ g) g : sProp 𝕄)) ⊢ shared OF κ :=
  bigSep_intro_persistent fun x _ => bigSep_elim (cell_mem x.1 x.2)

/-- All entry barriers are ready. -/
theorem ready_of : (bigSep barCells fun g => (reached ER g 0 : sProp 𝕄)) ⊢ barReady := Entails.of_eq (bigSep_map barEmb)

/-- The duties, dealt out to the devices that have them. -/
theorem toks_of : (bigSep allToks fun x => (dutyTok ER x.1 x.2.1 x.2.2 : sProp 𝕄)) ⊢ bigSep Finset.univ fun c : Dev nD => toks c :=
  Entails.of_eq (by rw [bigSep_map, bigSep_univ_prod]; rfl)

/-- The rights to open the allocated semaphores, dealt out to their devices. -/
theorem opens_of : (bigSep ownCells fun g => (openTok ER g : sProp 𝕄)) ⊢ bigSep Finset.univ fun c : Dev nD => bigSep Finset.univ fun k : Own => openTok ER (cell c (some k)) :=
  Entails.of_eq (by rw [bigSep_map, bigSep_univ_prod]; rfl)

/-- The positions at the entry barriers, dealt out to their devices. -/
theorem pos_of : (bigSep barCells fun g => (atPos ER g 0 ∅ 0 : sProp 𝕄)) ⊢ bigSep Finset.univ fun c : Dev nD => atPos ER (cell c none) 0 ∅ 0 :=
  Entails.of_eq (bigSep_map barEmb)

/-- The entry barriers start at zero. -/
theorem vals_of : (bigSep Finset.univ fun c : Dev nD => (semVal (cell c none) 0 : sProp 𝕄)) ⊢ bigSep barCells fun g => semVal g 0 :=
  Entails.of_eq (bigSep_map (s := Finset.univ) barEmb (Φ := fun g : GSem nD τ sig => (semVal g 0 : sProp 𝕄))).symm

/-! ## The credit of the launch -/

/-- What device `d` owes at the start. -/
abbrev O₀ (d : Dev nD) : CellTallies nD τ sig Unit := owe (atStart d)

/-- How many devices owe semaphore `k` of device `c` a signal. -/
def payers (c : Dev nD) (k : Key) : ℕ := (Finset.univ.filter fun d : Dev nD => (c, k) ∈ atStart d).card

/-- What device `d` owes to one semaphore at the start. -/
theorem owed_cell (d c : Dev nD) (k : Key) : O₀ d (cell c k) () = if (c, k) ∈ atStart d then amt k else 0 := by
  rw [owe_apply, Finset.sum_congr rfl fun x _ => if_congr (show cell c k = cell x.1 x.2 ↔ (c, k) = x from
    ⟨fun h => Prod.ext (cell_inj h).1 (cell_inj h).2, fun h => by subst h; rfl⟩) rfl rfl]
  exact Finset.sum_ite_eq _ (c, k) fun x => amt x.2

/-- The credit of a semaphore: one signal's units for each payer. -/
theorem credit_cell (c : Dev nD) (k : Key) :
    tallyOn (cell c k) (launchCredit (Pipeline.owing O₀) 0 (cell c k)) = (tallyAt (cell c k) () (payers c k * amt k) : CellTallies nD τ sig Unit) := by
  unfold tallyAt; refine congrArg _ (Finsupp.ext fun u => ?_); cases u
  rw [Pipeline.launchCredit_owing, Finsupp.single_eq_same, Finset.sum_congr rfl fun d _ => owed_cell d c k, ← Finset.sum_filter, Finset.sum_const, smul_eq_mul]
  rfl

/-- The protocol's semaphores among a device's. -/
def semEmb : Key ↪ SemLoc sig := ⟨sem, sem_inj⟩

/-- A device's credits at launch hold those of the protocol's semaphores. -/
theorem credits (c : Dev nD) : (Pipeline.launchCred O₀ c : sProp 𝕄) ⊢ bigSep Finset.univ fun k : Key => cred (tallyAt (cell c k) () (payers c k * amt k)) := by
  unfold Pipeline.launchCred
  refine BI.Entails.trans (bigSep_subset (Finset.subset_univ (Finset.univ.map semEmb))) ?_
  rw [bigSep_map]
  exact Entails.of_eq (bigSep_congr fun k _ => congrArg cred (credit_cell c k))

/-- Two devices signal an entry barrier. -/
theorem payers_none : ∀ c, payers c none = 2 := by decide +kernel
/-- Two devices signal an exit barrier. -/
theorem payers_xch : ∀ c, payers c (some .xch) = 2 := by decide +kernel
/-- One device pays an arrival semaphore of devices 1, 2 and 3. -/
theorem payers_rcv : ∀ (c : Dev nD) (b : Fin 8), c ≠ 0 → payers c (some (.rcv b)) = 1 := by decide +kernel

/-- The credit of an arrival semaphore is that of one block's transfer. -/
theorem arrives (c : Dev nD) (b : Fin 8) : (cred (tallyAt (cell c (some (.rcv b))) () (payers c (some (.rcv b)) * amt (some (.rcv b)))) : sProp 𝕄) ⊢ arrivals c b := by
  unfold arrivals
  by_cases h : c = 0
  · rw [if_pos h]; iintro -; iempintro
  · rw [if_neg h, payers_rcv c b h, Nat.one_mul]; exact Entails.of_eq rfl

/-- A device's credits at launch: two at either barrier, one transfer's for each arrival. -/
theorem creds (c : Dev nD) : (Pipeline.launchCred O₀ c : sProp 𝕄)
    ⊢ iprop(cred (tallyAt (cell c none) () 2) ∗ cred (tallyAt (cell c (some .xch)) () 2) ∗ bigSep Finset.univ (arrivals (F := F) c)) := by
  have h := credits (F := F) c
  rw [bigSep_key, bigSep_own, payers_none, payers_xch] at h
  iintro H
  ihave H := h $$ H
  icases H with ⟨H1, H2, H3⟩
  isplitl [H1]; · iexact H1
  isplitl [H2]; · iexact H2
  iapply (show (bigSep Finset.univ fun b : Fin 8 => iprop(cred (tallyAt (cell c (some (.snd 0 b))) () (payers c (some (.snd 0 b)) * amt (some (.snd 0 b))))
      ∗ cred (tallyAt (cell c (some (.snd 1 b))) () (payers c (some (.snd 1 b)) * amt (some (.snd 1 b))))
      ∗ cred (tallyAt (cell c (some (.rcv b))) () (payers c (some (.rcv b)) * amt (some (.rcv b))))) : sProp 𝕄) ⊢ bigSep Finset.univ (arrivals (F := F) c) from
    each fun b => by
      iintro ⟨-, -, H⟩
      iapply (arrives c b); iexact H)
  iexact H3

/-! ## The program as segments -/

/-- What rides beside the buffers up to the kernel. -/
def rides (c : Dev nD) : sProp 𝕄 := iprop(keeps m c ∗ (∃ r, prngReg c r) ∗ ∃ W, owes (c : Thread nD τ) (O₀ c) W)

/-- The casts and transposes before the call. -/
def host : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (fun op h => List.forall_iff_forall_mem.mp hostOps0_fresh op h)
    (V₀ m) (rides m)

/-- The program's two parts: the host's operations and the call. -/
def segs : List (Pipeline.Seg (pcfgs (F := F)) adm (pdats m) () defs₀ 𝒱₀ L lv) := [.host (host m), .region (region m)]

/-- The program is its two parts in order. -/
theorem main_run (c : Dev nD) : main (F := F) c = Pipeline.Seg.run (segs m) := main_segs adm (pdats m) () 𝒱₀ L lv (host m) (region m) rfl c

/-- The call's arrays are among the program's. -/
theorem arr_sub : Pipeline.arrRefs (τ := τ) spec0 ⊆ Pipeline.ucRefs τ sig := Pipeline.arrRefs_sub_ucRefs spec0 (by decide)

/-- What a device holds after the host's operations is what the call needs. -/
theorem to_region (c : Dev nD) : iprop(StableHlo.held (c : Thread nD τ) (Pipeline.ucRefs τ sig) (V₁ m c) ∗ rides m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ keeps m c ∗ ∃ Wd, owes (c : Thread nD τ) (0 + owe (atStart c)) Wd)
  rw [StableHlo.held_sub_split (c : Thread nD τ) arr_sub, zero_add]
  unfold rides
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

/-- What a device ends with. -/
abbrev lasts (c : Dev nD) : sProp 𝕄 := iprop(StableHlo.held (c : Thread nD τ) (Pipeline.ucRefs τ sig) (V₂ m c) ∗ semVal (cell c none) 0)

/-- What the call leaves is what the device holds at the end. -/
theorem from_region (c : Dev nD) : (region m).post c ⊢ iprop(lasts m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ rests c ∗ ∃ Wd, owes (c : Thread nD τ) (0 : CellTallies nD τ sig Unit) Wd) ⊢ _
  unfold lasts rests
  rw [StableHlo.held_sub_split (c : Thread nD τ) arr_sub]
  iintro ⟨Ha, -, ⟨Hr, -⟩, Hz, HO⟩
  isplitl [Ha Hr Hz]
  · isplitl [Ha Hr]
    · isplitl [Ha]; · iexact Ha
      iexact Hr
    iexact Hz
  iexact HO

/-! ## The launch -/

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's part of it, all of it with device 0. -/
def ghosts (c : Dev nD) : sProp 𝕄 := if c = 0 then BI.own (ER (launchOf barCells ownCells allToks)) else iprop(emp)

/-- The protocol's ghost state at launch, dealt out to the devices. -/
theorem ghosts_all : bigSep Finset.univ (ghosts (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold ghosts; rw [if_neg (Finset.ne_of_mem_erase hc)]; rfl, BI.bigSep_emp_const]
  unfold ghosts; rw [if_pos rfl]
  exact BI.equiv_iff.mp sep_emp

/-- The only semaphore that is not allocated by the call is the entry barrier. -/
theorem launch_sems (c : Dev nD) : (unscopedSems0 c : sProp 𝕄) = semVal (cell c none) 0 := by
  unfold unscopedSems0
  rw [show (Finset.univ.filter fun sm : SemLoc sig => ¬ sm.isScoped .tc) = {sem none} from by decide +kernel, BI.bigSep_singleton]

/-- What of a device's launch is not the protocol's. -/
def plain (c : Dev nD) : sProp 𝕄 :=
  iprop(StableHlo.held (c : Thread nD τ) (Pipeline.ucRefs τ sig) (V₀ m c)
    ∗ (cred (tallyAt (cell c none) () 2) ∗ cred (tallyAt (cell c (some .xch)) () 2) ∗ bigSep Finset.univ (arrivals (F := F) c))
    ∗ owes (c : Thread nD τ) (O₀ c) ∅ ∗ ∃ r, prngReg c r)

/-- What of the protocol's is the device's own. -/
def mine (c : Dev nD) : sProp 𝕄 :=
  iprop(atPos ER (cell c none) 0 ∅ 0 ∗ (bigSep Finset.univ fun k : Own => openTok ER (cell c (some k))) ∗ toks c)

/-- What a device holds at the program's start. -/
abbrev firsts (c : Dev nD) : sProp 𝕄 := iprop(StableHlo.held (c : Thread nD τ) (Pipeline.ucRefs τ sig) (V₀ m c) ∗ rides m c)

/-- What is dealt to a device, with the shared invariants, is what it holds at the start. -/
theorem firsts_of (κ : GSem nD τ sig → ℕ) (c : Dev nD) : iprop((shared (outOf m) κ ∗ barReady) ∗ (mine c ∗ plain m c)) ⊢ firsts m c := by
  unfold firsts rides keeps mine plain
  iintro ⟨⟨#HI, #HB⟩, ⟨Hat, Ho, Ht⟩, Hh, Hc, HO, Hp⟩
  isplitl [Hh]; · iexact Hh
  isplitl [Hat Ho Ht Hc]
  · isplitr; · iexists κ; iexact HI
    isplitr; · iexact HB
    isplitl [Ht]; · iexact Ht
    isplitl [Hat]; · iexact Hat
    isplitl [Ho]; · iexact Ho
    iexact Hc
  isplitl [Hp]; · iexact Hp
  iexists ∅; iexact HO

/-- Two families of devices are one family of pairs. -/
theorem both {Φ Ψ : Dev nD → sProp 𝕄} :
    iprop(bigSep Finset.univ Φ ∗ bigSep Finset.univ Ψ) ⊢ bigSep Finset.univ (fun b => iprop(Φ b ∗ Ψ b)) := Entails.of_eq (bigSep_sep' _ _ _).symm
/-- A family of pairs is two families. -/
theorem parts {Φ Ψ : Dev nD → sProp 𝕄} :
    bigSep Finset.univ (fun b => iprop(Φ b ∗ Ψ b)) ⊢ iprop(bigSep Finset.univ Φ ∗ bigSep Finset.univ Ψ) := Entails.of_eq (bigSep_sep' _ _ _)

/-- What the launch deals device `c`. -/
abbrev dealt (c : Dev nD) : sProp 𝕄 :=
  iprop(unscopedBufs c (fun b => m ((c : Thread nD τ).loc b)) ∗ unscopedSems0 c ∗ owes (c : Thread nD τ) (O₀ c) ∅ ∗ Pipeline.launchCred O₀ c ∗ prngReg c (ρ c) ∗ ghosts c)

/-- What a device is dealt: its arrays, its entry barrier, its ghost state. -/
theorem dealt_of (c : Dev nD) : dealt m ρ c ⊢ iprop(plain m c ∗ (semVal (cell c none) 0 ∗ ghosts c)) := by
  unfold dealt
  rw [show unscopedBufs c (fun b => m ((c : Thread nD τ).loc b)) = StableHlo.held (c : Thread nD τ) (Pipeline.ucRefs τ sig) (V₀ m c) from
    Pipeline.unscopedBufs_held c (V₀ m c), launch_sems]
  unfold plain
  iintro ⟨Hh, Hz, HO, Hc, Hp, HG⟩
  ihave Hc := (creds c) $$ Hc
  isplitr [Hz HG]
  · isplitl [Hh]; · iexact Hh
    isplitl [Hc]; · iexact Hc
    isplitl [HO]; · iexact HO
    iexists (ρ c); iexact Hp
  isplitl [Hz]; · iexact Hz
  iexact HG

/-- The launch sets up the protocol on all devices. -/
theorem launch : iprop((bigSep Finset.univ fun c : Dev nD => dealt m ρ c) ∗ levAts L lv) ⊢ (|={Set.univ}=> bigSep Finset.univ (firsts m) : sProp 𝕄) := by
  iintro ⟨H, -⟩
  ihave H := (show (bigSep Finset.univ fun c : Dev nD => dealt m ρ c) ⊢ (bigSep Finset.univ fun c : Dev nD => iprop(plain m c ∗ (semVal (cell c none) 0 ∗ ghosts c)) : sProp 𝕄) from
    bigSep_mono fun c _ => dealt_of m ρ c) $$ H
  ihave H := parts $$ H; icases H with ⟨HB, H⟩
  ihave H := parts $$ H; icases H with ⟨Hv, HG⟩
  ihave HG := (Entails.of_eq (ghosts_all (F := F))) $$ HG
  imod (Rounds.fund_launch ER (Rd (outOf m)) cells_apart (fun g _ h => h) allToks) $$ [Hv HG] with ⟨%κ, -, #Hinv, #Hr, Hat, Ho, Ht⟩
  · isplitl [Hv]
    · iapply vals_of $$ Hv
    · iexact HG
  imodintro
  iapply (bigSep_with_persistent (R := iprop(shared (outOf m) κ ∗ barReady)) (Φ := fun c => iprop(mine c ∗ plain m c)) fun c _ => firsts_of m κ c)
  isplitr
  · isplitr; · iapply (shared_of (outOf m) κ); iexact Hinv
    iapply ready_of; iexact Hr
  iapply both
  isplitr [HB]
  · unfold mine
    iapply both; isplitl [Hat]; · iapply pos_of $$ Hat
    iapply both; isplitl [Ho]; · iapply opens_of $$ Ho
    iapply toks_of $$ Ht
  · iexact HB

/-! ## The run -/

/-- The entry barrier is the only semaphore that outlives the call. -/
theorem unscoped_eq : ∀ sm : SemLoc sig, sm.isScoped .tc = false → sm = sem none := by decide +kernel

/-- The buffers the claims speak of: the result and the arguments. -/
def named : Finset (DevRef τ sig) :=
  {Proc.devRef .tc main_v6, Proc.devRef .tc main_arg0, Proc.devRef .tc main_arg1, Proc.devRef .tc main_arg2, Proc.devRef .tc main_arg3, Proc.devRef .tc main_arg4}

/-- The arguments and the result are among the program's arrays. -/
theorem named_sub : named ⊆ Pipeline.ucRefs τ sig := by decide +kernel

/-- Holding all arrays is holding the arguments and the result. -/
theorem held_named (c : Dev nD) (V : Valuation τ sig (Elt F)) :
    (StableHlo.held (c : Thread nD τ) (Pipeline.ucRefs τ sig) V : sProp 𝕄)
      ⊢ iprop(pt c main_v6 (V (Proc.devRef .tc main_v6)) ∗ pt c main_arg0 (V (Proc.devRef .tc main_arg0)) ∗ pt c main_arg1 (V (Proc.devRef .tc main_arg1))
        ∗ pt c main_arg2 (V (Proc.devRef .tc main_arg2)) ∗ pt c main_arg3 (V (Proc.devRef .tc main_arg3)) ∗ pt c main_arg4 (V (Proc.devRef .tc main_arg4))) := by
  have e : (bigSep named fun b => (((c : Thread nD τ).1, b) ↦{fullShare} V b) : sProp 𝕄)
      = iprop(pt c main_v6 (V (Proc.devRef .tc main_v6)) ∗ pt c main_arg0 (V (Proc.devRef .tc main_arg0)) ∗ pt c main_arg1 (V (Proc.devRef .tc main_arg1))
        ∗ pt c main_arg2 (V (Proc.devRef .tc main_arg2)) ∗ pt c main_arg3 (V (Proc.devRef .tc main_arg3)) ∗ pt c main_arg4 (V (Proc.devRef .tc main_arg4))) := by
    unfold named
    rw [bigSep_insert (by decide +kernel), bigSep_insert (by decide +kernel), bigSep_insert (by decide +kernel), bigSep_insert (by decide +kernel),
      bigSep_insert (by decide +kernel), bigSep_singleton]
    rfl
  rw [← e]
  exact bigSep_subset named_sub

/-- The call keeps every array that is not its output. -/
theorem kept (c : Dev nD) (r : Ref sig .tc) (h : ∀ w, Pipeline.arrRef spec0 w = r → (win0 w).isOut = false) :
    V₂ m c (Proc.devRef .tc r) = V₁ m c (Proc.devRef .tc r) :=
  Pipeline.afterRegion_keeps (dat m c) (V₁ m c) winFacts0.arr_inj (fun _ => rfl) r h

/-- The call's output is the result. -/
theorem result (c : Dev nD) : V₂ m c (Proc.devRef .tc main_v6) = resOf m :=
  (Pipeline.afterRegion_arr (dat m c) (V₁ m c) winFacts0.arr_inj 5).trans (left_5 m c)

/-- What the run leaves on device `c`. -/
def Left (c : Dev nD) (μ : (ℓ : Loc nD τ sig) → Buf (Elt F) ℓ) : Prop :=
  μ ((c : Thread nD τ).loc main_v6) = resOf m
  ∧ μ ((c : Thread nD τ).loc main_arg0) = m ((c : Thread nD τ).loc main_arg0) ∧ μ ((c : Thread nD τ).loc main_arg1) = m ((c : Thread nD τ).loc main_arg1)
  ∧ μ ((c : Thread nD τ).loc main_arg2) = m ((c : Thread nD τ).loc main_arg2) ∧ μ ((c : Thread nD τ).loc main_arg3) = m ((c : Thread nD τ).loc main_arg3)
  ∧ μ ((c : Thread nD τ).loc main_arg4) = m ((c : Thread nD τ).loc main_arg4)

/-- The first argument is kept. -/
theorem arg0_kept (c : Dev nD) : V₂ m c (Proc.devRef .tc main_arg0) = m ((c : Thread nD τ).loc main_arg0) := (kept m c main_arg0 (by decide)).trans (V_main_arg0 m c)
/-- The second argument is kept. -/
theorem arg1_kept (c : Dev nD) : V₂ m c (Proc.devRef .tc main_arg1) = m ((c : Thread nD τ).loc main_arg1) := (kept m c main_arg1 (by decide)).trans (V_main_arg1 m c)
/-- The third argument is kept. -/
theorem arg2_kept (c : Dev nD) : V₂ m c (Proc.devRef .tc main_arg2) = m ((c : Thread nD τ).loc main_arg2) := (kept m c main_arg2 (by decide)).trans (V_main_arg2 m c)
/-- The fourth argument is kept. -/
theorem arg3_kept (c : Dev nD) : V₂ m c (Proc.devRef .tc main_arg3) = m ((c : Thread nD τ).loc main_arg3) := (kept m c main_arg3 (by decide)).trans (V_main_arg3 m c)
/-- The fifth argument is kept. -/
theorem arg4_kept (c : Dev nD) : V₂ m c (Proc.devRef .tc main_arg4) = m ((c : Thread nD τ).loc main_arg4) := (kept m c main_arg4 (by decide)).trans (V_main_arg4 m c)

/-- At the end the arrays are as stated and the entry barrier is at zero. -/
theorem read_last (c : Dev nD) (s' : Phys nD τ sig (Elt F)) :
    iprop(lasts m c ∗ SI s') ⊢ (|={Set.univ}=> iprop(⌜Left m c s'.mem.mem ∧ s'.mem.sem (cell c none) = 0⌝ ∗ SI s') : sProp 𝕄) := by
  unfold lasts
  iintro ⟨⟨Hh, Hz⟩, HSI⟩
  ihave Hh := (held_named c (V₂ m c)) $$ Hh
  icases Hh with ⟨H6, H0, H1, H2, H3, H4⟩
  icombine HSI H6 gives %h6
  icombine HSI H0 gives %h0
  icombine HSI H1 gives %h1
  icombine HSI H2 gives %h2
  icombine HSI H3 gives %h3
  icombine HSI H4 gives %h4
  icombine HSI Hz gives %hz
  imodintro
  isplitr
  · ipureintro
    exact ⟨⟨(Buf.eq_of_forall_mem_univ h6).trans (result m c), (Buf.eq_of_forall_mem_univ h0).trans (arg0_kept m c), (Buf.eq_of_forall_mem_univ h1).trans (arg1_kept m c),
      (Buf.eq_of_forall_mem_univ h2).trans (arg2_kept m c), (Buf.eq_of_forall_mem_univ h3).trans (arg3_kept m c), (Buf.eq_of_forall_mem_univ h4).trans (arg4_kept m c)⟩, by simpa using hz⟩
  iexact HSI

set_option backward.isDefEq.respectTransparency.types false in
/-- The run, from any memory with every semaphore at zero. -/
theorem run_main : θ_run defs (onTc (τ := τ) (main (F := F))) ⟨m, fun _ => 0, ρ⟩
    (fun r => (∀ c : Dev nD, Left m c r.2.mem) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := ghosts) (u₀ := u₀)
    (hu₀ := by
      unfold u₀
      rw [ghosts_all]
      iintro Hu
      ihave H := (ownU_pair _ _) $$ Hu
      icases H with ⟨HP, HX⟩
      imodintro
      isplitl [HP]; · iexact HP
      iexact HX)
    (T₀ := firsts m) (Tₙ := lasts m)
    (hch := ⟨fun c => .rfl, fun c => to_region m c, fun c => from_region m c⟩)
    (hinit := launch m ρ)
    (QY := fun c s => Left m c s.mem ∧ s.sem (cell c none) = 0)
    (hfin := read_last m)
    (hQ := fun s h hs => ⟨fun c => (h c).1, sem_eq_zero hs fun c sm hsm => by
        obtain rfl := unscoped_eq sm hsm
        exact (h c).2⟩)

end Cert.KernelIdeal.Blocks

end
-- ==== Proof.Masks.lean ====
/- The diagonal tile's mask of the kernel, bit by bit. -/
module

public import proofs.«01_k».proof.Proof.Blocks
public import Idealize.ShloMosaic.Lib.ValueIdxCore
public import Idealize.ShloMosaic.Lib.WordCmp

@[expose] public section

set_option maxRecDepth 16384

namespace Cert.KernelIdeal.Blocks

open Idealize.ShloMosaic Idealize.ShloMosaic.ValueIdx
open Cert.KernelIdeal Cert.KernelIdeal.Gen

/-- A key's group of 64, from its column. -/
theorem key_group (r x : Fin 256) : k0_pay260 (ix2 r x) = BitVec.ofNat 32 (x.val / 64) := by
  have h : ∀ x : Fin 256, k0_pay260 (ix2 (0 : Fin 256) x) = BitVec.ofNat 32 (x.val / 64) := by decide +kernel
  exact h x

/-- The mask's bit at a row and a column, from the column's group. -/
theorem mask_word (r x : Fin 256) :
    mask (ix2 r x) = IntOp.cmpi .sle (k0_pay260 (ix2 r x)) (BitVec.ofNat 32 (r.val / 64)) := by
  have h : ∀ r : Fin 256, Scalar.select (IntOp.andi (k0_pay262 (ix2 r (0 : Fin 256))) (IntOp.cmpi .ne (k0_pay263 (ix2 r (0 : Fin 256))) 0#32))
      (k0_pay261 (ix2 r (0 : Fin 256)) - 1#32) (k0_pay261 (ix2 r (0 : Fin 256))) = BitVec.ofNat 32 (r.val / 64) := by decide +kernel
  rw [← h r]
  rfl

/-- The mask holds where the key's group of 64 is not after the query's. -/
theorem mask_at (r x : Fin 256) : mask (ix2 r x) = 1#1 ↔ x.val / 64 ≤ r.val / 64 := by
  rw [mask_word, key_group]
  exact WordCmp.cmpi_sle_ofNat_eq_one_iff (by have := x.isLt; show _ < 2 ^ 31; omega) (by have := r.isLt; show _ < 2 ^ 31; omega)

end Cert.KernelIdeal.Blocks
-- ==== Proof.Softmax.lean ====
/- One row of attention over the extended reals: the reference's normalised weights, and the kernel's one quotient of two sums. -/
module

public import Idealize.ShloMosaic.PureOps.Ideal
public import Mathlib.Data.EReal.Operations
public import Mathlib.Data.Finset.Fold
public import Mathlib.Algebra.BigOperators.Fin

@[expose] public section

noncomputable section

namespace Cert.Attention

open Idealize.ShloMosaic
open Finset (univ)

/-! ## Sums -/

/-- A nonnegative real factor goes into a sum of extended reals. -/
theorem mul_sum_real {ι : Type} (a : ℝ) (ha : 0 ≤ a) (S : Finset ι) (f : ι → EReal) :
    (a : EReal) * ∑ j ∈ S, f j = ∑ j ∈ S, (a : EReal) * f j := by
  classical
  induction S using Finset.induction_on with
  | empty => simp
  | insert j S hj ih =>
    rw [Finset.sum_insert hj, Finset.sum_insert hj, EReal.left_distrib_of_nonneg_of_ne_top (by exact_mod_cast ha) (EReal.coe_ne_top a), ih]

/-- A sum of reals is a real. -/
theorem coe_sum {ι : Type} (S : Finset ι) (f : ι → ℝ) : ∑ j ∈ S, (f j : EReal) = ((∑ j ∈ S, f j : ℝ) : EReal) := by
  classical
  induction S using Finset.induction_on with
  | empty => simp
  | insert j S hj ih => rw [Finset.sum_insert hj, Finset.sum_insert hj, ih, EReal.coe_add]

/-- A sum whose terms vanish from `a + c` on is the sum of the `c` terms from `a` on and of the `a` terms before. -/
theorem sum_split {n a c : ℕ} (h : a + c ≤ n) (g : Fin n → EReal) (hz : ∀ j : Fin n, a + c ≤ j.val → g j = 0) :
    ∑ j, g j = (∑ x : Fin c, g ⟨a + x.val, by omega⟩) + ∑ x : Fin a, g ⟨x.val, by omega⟩ := by
  obtain ⟨G, hG⟩ : ∃ G : ℕ → EReal, ∀ j : Fin n, G j.val = g j :=
    ⟨fun k => if hk : k < n then g ⟨k, hk⟩ else 0, fun j => by simp⟩
  have e1 : ∑ j, g j = ∑ k ∈ Finset.range n, G k := by
    rw [← Fin.sum_univ_eq_sum_range]; exact Finset.sum_congr rfl fun j _ => (hG j).symm
  have e2 : ∑ k ∈ Finset.range (a + c), G k = ∑ k ∈ Finset.range n, G k := by
    refine Finset.sum_subset (by intro k; simp only [Finset.mem_range]; omega) fun k hk hk' => ?_
    have hk1 := Finset.mem_range.1 hk
    rw [hG ⟨k, hk1⟩]
    exact hz _ (by simpa using hk')
  rw [e1, ← e2, Finset.sum_range_add, add_comm]
  congr 1
  · rw [← Fin.sum_univ_eq_sum_range (fun x => G (a + x))]
    exact Finset.sum_congr rfl fun x _ => hG ⟨a + x.val, by omega⟩
  · rw [← Fin.sum_univ_eq_sum_range]
    exact Finset.sum_congr rfl fun x _ => hG ⟨x.val, by omega⟩

/-- A sum of products of reals is a real. -/
theorem sum_mul_real {ι : Type} (S : Finset ι) (f g : ι → EReal) (hf : ∀ j, ∃ r : ℝ, f j = r) (hg : ∀ j, ∃ r : ℝ, g j = r) :
    ∃ r : ℝ, ∑ j ∈ S, f j * g j = r := by
  choose a ha using hf
  choose b hb using hg
  exact ⟨∑ j ∈ S, a j * b j, by rw [← coe_sum]; exact Finset.sum_congr rfl fun j _ => by rw [ha, hb, EReal.coe_mul]⟩

/-! ## Queries and scores -/

/-- One lane of a query: a row of the input times a column of the weights. -/
def query (x w : Fin 1024 → EReal) : EReal := ∑ l, x l * w l

/-- The scaling constant of the scores. -/
def factor : EReal := Ideal.ofBits .f32 0x3DB504F3#32

/-- The scaled score of a query against a key. -/
def score (q k : Fin 128 → EReal) : EReal := (∑ d, q d * k d) * factor

/-- The scaling constant is real. -/
theorem factor_real : ∃ r : ℝ, factor = r := by
  unfold factor
  simp only [Ideal.ofBits, Ideal.ieee]
  norm_num
  exact ⟨_, rfl⟩

/-- A query of real operands is real. -/
theorem query_real {x w : Fin 1024 → EReal} (hx : ∀ l, ∃ r : ℝ, x l = r) (hw : ∀ l, ∃ r : ℝ, w l = r) : ∃ r : ℝ, query x w = r :=
  sum_mul_real _ x w hx hw

/-- A score of real operands is real. -/
theorem score_real {q k : Fin 128 → EReal} (hq : ∀ d, ∃ r : ℝ, q d = r) (hk : ∀ d, ∃ r : ℝ, k d = r) : ∃ r : ℝ, score q k = r := by
  obtain ⟨a, ha⟩ := sum_mul_real Finset.univ q k hq hk
  obtain ⟨c, hc⟩ := factor_real
  exact ⟨a * c, by unfold score; rw [ha, hc, EReal.coe_mul]⟩

/-! ## The quotient -/

/-- A score where the key is seen, and minus infinity elsewhere. -/
def seen {n : ℕ} (P : Fin n → Prop) [DecidablePred P] (s : Fin n → EReal) (j : Fin n) : EReal := if P j then s j else ⊥

/-- The exponential of a score where the key is seen, and zero elsewhere. -/
def wgt {n : ℕ} (P : Fin n → Prop) [DecidablePred P] (s : Fin n → EReal) (j : Fin n) : EReal := if P j then Ideal.exp (s j) else 0

/-- The largest score of the keys seen. -/
def top {n : ℕ} (P : Fin n → Prop) [DecidablePred P] (s : Fin n → EReal) : EReal := univ.fold max ⊥ (seen P s)

/-- The largest of finitely many real scores, one key seen at least, is real. -/
theorem top_real {n : ℕ} (P : Fin n → Prop) [DecidablePred P] (s : Fin n → EReal) (hs : ∀ j, ∃ r : ℝ, s j = r) (hP : ∃ j, P j) :
    ∃ M : ℝ, top P s = M := by
  have h1 : top P s ≠ ⊤ := by
    refine ne_of_lt ((Finset.fold_max_lt _).2 ⟨bot_lt_top, fun j _ => ?_⟩)
    obtain ⟨r, hr⟩ := hs j
    unfold seen
    split
    · rw [hr]; exact EReal.coe_lt_top r
    · exact bot_lt_top
  have h2 : top P s ≠ ⊥ := by
    obtain ⟨j, hj⟩ := hP
    obtain ⟨r, hr⟩ := hs j
    refine ne_of_gt (lt_of_lt_of_le (EReal.bot_lt_coe r) ((Finset.le_fold_max _).2 (Or.inr ⟨j, Finset.mem_univ j, ?_⟩)))
    unfold seen
    rw [if_pos hj, hr]
  exact ⟨_, (EReal.coe_toReal h1 h2).symm⟩

/-- A real divided by a nonzero real. -/
theorem div_real (x : EReal) {E : ℝ} (hE : E ≠ 0) : Ideal.div x E = x * ((E⁻¹ : ℝ) : EReal) := by
  unfold Ideal.div
  rw [if_neg (by exact_mod_cast hE), EReal.coe_inv]

/-- Values weighted by the normalised exponentials of the scores less their maximum are the quotient of the values
weighted by the plain exponentials and of the sum of the exponentials. The values need not be finite. -/
theorem softmax_quotient {n : ℕ} (P : Fin n → Prop) [DecidablePred P] (s v : Fin n → EReal)
    (hs : ∀ j, ∃ r : ℝ, s j = r) (hP : ∃ j, P j) :
    ∑ j, v j * Ideal.div (Ideal.exp (seen P s j - top P s)) (∑ k, Ideal.exp (seen P s k - top P s))
      = Ideal.div (∑ j, wgt P s j * v j) (∑ j, wgt P s j) := by
  obtain ⟨M, hM⟩ := top_real P s hs hP
  choose r hr using hs
  let e : Fin n → ℝ := fun j => if P j then Real.exp (r j) else 0
  have he0 : ∀ j, 0 ≤ e j := fun j => by
    show 0 ≤ (if P j then Real.exp (r j) else 0)
    split
    · exact (Real.exp_pos _).le
    · exact le_refl _
  have hw : ∀ j, wgt P s j = (e j : EReal) := fun j => by
    show (if P j then Ideal.exp (s j) else 0) = ((if P j then Real.exp (r j) else 0 : ℝ) : EReal)
    split
    · rw [hr]; rfl
    · rfl
  have hx : ∀ j, Ideal.exp (seen P s j - top P s) = ((Real.exp (-M) * e j : ℝ) : EReal) := fun j => by
    show Ideal.exp ((if P j then s j else ⊥) - top P s) = ((Real.exp (-M) * (if P j then Real.exp (r j) else 0) : ℝ) : EReal)
    rw [hM]
    split
    · rw [hr, ← EReal.coe_sub, ← Real.exp_add, show -M + r j = r j - M by ring]; rfl
    · rw [mul_zero, EReal.bot_sub]; rfl
  have hE : 0 < ∑ j, e j := by
    obtain ⟨j, hj⟩ := hP
    refine Finset.sum_pos' (fun k _ => he0 k) ⟨j, Finset.mem_univ j, ?_⟩
    show 0 < (if P j then Real.exp (r j) else 0)
    rw [if_pos hj]; exact Real.exp_pos _
  have hc : (0 : ℝ) < Real.exp (-M) := Real.exp_pos _
  simp only [hw, hx]
  rw [coe_sum, coe_sum, ← Finset.mul_sum, div_real _ hE.ne', mul_comm (∑ j, (e j : EReal) * v j), mul_sum_real _ (inv_pos.2 hE).le]
  refine Finset.sum_congr rfl fun j _ => ?_
  rw [div_real _ (mul_pos hc hE).ne', ← EReal.coe_mul, ← mul_assoc, ← EReal.coe_mul, mul_comm (v j)]
  congr 2
  field_simp

/-! ## A row of block `b` -/

/-- Over 8192 keys of which query `256 b + r` sees those whose group of 64 is not after its own: the reference's row is the
quotient of the sums over the block's own 256 keys, masked, and over the keys before the block. -/
theorem row_quotient {b r : ℕ} (hb : b < 8) (hr : r < 256) (s v : Fin 8192 → EReal) (hs : ∀ j, ∃ t : ℝ, s j = t)
    (p : Fin 8192 → Prop) [DecidablePred p] (hp : ∀ j, p j ↔ j.val / 64 ≤ (256 * b + r) / 64) :
    ∑ j, v j * Ideal.div (Ideal.exp (seen p s j - top p s)) (∑ k, Ideal.exp (seen p s k - top p s))
      = Ideal.div
          ((∑ x : Fin 256, (if x.val / 64 ≤ r / 64 then Ideal.exp (s ⟨256 * b + x.val, by omega⟩) else 0) * v ⟨256 * b + x.val, by omega⟩)
            + ∑ x : Fin (256 * b), Ideal.exp (s ⟨x.val, by omega⟩) * v ⟨x.val, by omega⟩)
          ((∑ x : Fin 256, if x.val / 64 ≤ r / 64 then Ideal.exp (s ⟨256 * b + x.val, by omega⟩) else 0)
            + ∑ x : Fin (256 * b), Ideal.exp (s ⟨x.val, by omega⟩)) := by
  have hfar : ∀ j : Fin 8192, 256 * b + 256 ≤ j.val → wgt p s j = 0 := fun j hj => by
    unfold wgt; rw [if_neg]; rw [hp]; omega
  have hown : ∀ x : Fin 256, wgt p s ⟨256 * b + x.val, by omega⟩
      = if x.val / 64 ≤ r / 64 then Ideal.exp (s ⟨256 * b + x.val, by omega⟩) else 0 := fun x => by
    unfold wgt
    refine if_congr ?_ rfl rfl
    rw [hp]
    show (256 * b + x.val) / 64 ≤ (256 * b + r) / 64 ↔ _
    omega
  have hbefore : ∀ x : Fin (256 * b), wgt p s ⟨x.val, by omega⟩ = Ideal.exp (s ⟨x.val, by omega⟩) := fun x => by
    unfold wgt; rw [if_pos]; rw [hp]
    show x.val / 64 ≤ _
    omega
  rw [softmax_quotient p s v hs ⟨⟨0, by decide⟩, by rw [hp]; show 0 / 64 ≤ _; omega⟩,
    sum_split (a := 256 * b) (c := 256) (by omega) (fun j => wgt p s j * v j) (fun j hj => by rw [hfar j hj, zero_mul]),
    sum_split (a := 256 * b) (c := 256) (by omega) (fun j => wgt p s j) hfar]
  simp only [hown, hbefore]

end Cert.Attention
-- ==== Proof.KerValue.lean ====
/- The kernel's result over the extended reals, read at an index. -/
module

public import proofs.«01_k».proof.Proof.Compute
public import proofs.«01_k».proof.Proof.Masks
public import proofs.«01_k».proof.Proof.Softmax
public import Idealize.ShloMosaic.Lib.Pointwise
public import Idealize.ShloMosaic.Lib.MatmulPlain
public import Idealize.ShloMosaic.Lib.Pipeline.Value

@[expose] public section

set_option maxRecDepth 16384

noncomputable section

namespace Cert.KernelIdeal.Blocks

open Idealize.ShloMosaic
open Cert.KernelIdeal Cert.KernelIdeal.Gen

/-! ## The tiles' values -/

/-- A head's keys without their unit axis. -/
theorem drop_K {α : Type} (n : ℕ) (k : (K3 n).Idx → α) (x : Fin n) (d : Fin 128) :
    shapeCast (K2 n) k (casts_K n) (ix2 x d) = k (ix3 0 x d) := by
  refine (shapeCast_dropUnit_apply ![n, 128] k (casts_K n) (ix2 x d)).trans (congrArg k ?_)
  funext a
  match a with
  | ⟨0, _⟩ => rfl
  | ⟨1, _⟩ => rfl
  | ⟨2, _⟩ => rfl

/-- The exponential of a scaled score. -/
theorem expScores_at (n : ℕ) (q : FVec Ideal S256x128 .bf16) (k : FVec Ideal (K3 n) .bf16) (r : Fin 256) (x : Fin n) :
    expScores (F := Ideal) n q k (ix2 r x) = Ideal.exp (Attention.score (fun d => q (ix2 r d)) (fun d => k (ix3 0 x d))) := by
  have e := Ideal.matmul_transposedRhs_apply none q (shapeCast (K2 n) k (casts_K n) : FVec Ideal (K2 n) .bf16) (constant (E2 n) .f32 0x00000000#32) r x
  simp only [← ix2_eq_valueIdx] at e
  have e' : matmul (dotQK n) none q (shapeCast (K2 n) k (casts_K n) : FVec Ideal (K2 n) .bf16) (constant (E2 n) .f32 0x00000000#32) (ix2 r x)
      = ∑ d : Fin 128, q (ix2 r d) * k (ix3 0 x d) := by
    refine e.trans ?_
    simp only [drop_K]
    show Ideal.ofBits .f32 0x00000000#32 + _ = _
    rw [Ideal.ofBits_zero_f32, zero_add]
  show Ideal.exp (matmul (dotQK n) none q (shapeCast (K2 n) k (casts_K n) : FVec Ideal (K2 n) .bf16) (constant (E2 n) .f32 0x00000000#32) (ix2 r x) * Attention.factor) = _
  rw [e']
  rfl

/-- On the diagonal tile, zero where the key is not seen. -/
theorem diagScores_at (q : FVec Ideal S256x128 .bf16) (k : FVec Ideal (K3 256) .bf16) (r x : Fin 256) :
    diagScores (F := Ideal) mask q k (ix2 r x)
      = if x.val / 64 ≤ r.val / 64 then Ideal.exp (Attention.score (fun d => q (ix2 r d)) (fun d => k (ix3 0 x d))) else 0 := by
  show (if mask (ix2 r x) = 1#1 then expScores (F := Ideal) 256 q k (ix2 r x) else Ideal.ofBits .f32 0x00000000#32) = _
  rw [expScores_at, Ideal.ofBits_zero_f32]
  exact if_congr (by rw [ix2_eq_valueIdx]; exact mask_at r x) rfl rfl

/-- A row's sum. -/
theorem rowSum_at (n : ℕ) (e : FVec Ideal (E2 n) .f32) (r : Fin 256) : rowSum (F := Ideal) n e (ix2 r 0) = ∑ x : Fin n, e (ix2 r x) := by
  unfold rowSum
  have h : shapeCast S256x1 (multiReduction .add [1] S256 e 0x00000000#32 (reduces_E n) (.inl rfl) rfl) shapeCasts_S256_S256x1 (ix2 r 0)
      = multiReduction .add [1] S256 e 0x00000000#32 (reduces_E n) (.inl rfl) rfl (ix1 r) := by
    pointwise
  rw [h]
  refine (Ideal.multiReduction_add_single e _ (reduces_E n) _ _ (ix1 r)).trans (Finset.sum_congr rfl fun x _ => congrArg e ?_)
  funext a
  match a with
  | ⟨0, _⟩ => rfl
  | ⟨1, _⟩ => rfl

/-- Weights times values, as a sum over the keys. -/
theorem weigh_at (n : ℕ) (e : FVec Ideal (E2 n) .f32) (v : FVec Ideal (K3 n) .bf16) (r : Fin 256) (d : Fin 128) :
    weigh (F := Ideal) n e v (ix2 r d) = ∑ x : Fin n, e (ix2 r x) * v (ix3 0 x d) := by
  have h := Ideal.matmul_plain_apply none (truncf .bf16 e bitsLt_bf16_f32 : FVec Ideal (E2 n) .bf16) (shapeCast (K2 n) v (casts_K n) : FVec Ideal (K2 n) .bf16)
    (constant S256x128 .f32 0x00000000#32) r d
  simp only [← ix2_eq_valueIdx] at h
  refine h.trans ?_
  simp only [drop_K]
  show Ideal.ofBits .f32 0x00000000#32 + _ = _
  rw [Ideal.ofBits_zero_f32, zero_add]
  rfl

/-- The quotient, element by element. -/
theorem quot_at (acc : FVec Ideal S256x128 .f32) (den : FVec Ideal S256x1 .f32) (r : Fin 256) (d : Fin 128) :
    quot (F := Ideal) acc den (ix2 r d) = Ideal.div (acc (ix2 r d)) (den (ix2 r 0)) := by
  pointwise [quot]

/-- A row times a matrix, as a sum. -/
theorem proj_at (x : FVec Ideal S256x1024 .bf16) (w : FVec Ideal S1024x1024 .bf16) (r : Fin 256) (n : Fin 1024) :
    proj (F := Ideal) x w (ix2 r n) = ∑ l : Fin 1024, x (ix2 r l) * w (ix2 l n) := by
  pointwise [proj]

/-- A lane of the queries, as a sum. -/
theorem payQ_at (x : FVec Ideal S256x1024 .bf16) (w : FVec Ideal S1024x1024 .bf16) (r : Fin 256) (n : Fin 1024) :
    payQ (F := Ideal) x w (ix2 r n) = ∑ l : Fin 1024, x (ix2 r l) * w (ix2 l n) := by
  pointwise [payQ, proj]

/-- A block under its unit axis. -/
theorem payO_at (o : FVec Ideal S256x1024 .bf16) (r : Fin 256) (n : Fin 1024) : payO (F := Ideal) o (ix3 0 r n) = o (ix2 r n) := by
  pointwise [payO]

/-! ## The parts of the operands -/

section Parts

variable {F : FTy → Type} [FloatOps F]

/-- Row `r` of block `b` is row `256 b + r`. -/
theorem part_X (b : ℕ) (hb : b < 8) (f : Vec F S2048x1024 .bf16) (r : Fin 256) (l : Fin 1024) :
    part (rX b hb) f (ix2 r l) = f (ix2 ⟨256 * b + r.val, by omega⟩ l) := by
  refine congrArg f (funext fun a => Fin.ext ?_)
  match a with
  | ⟨0, _⟩ => show 256 * b + 1 * r.val = 256 * b + r.val; omega
  | ⟨1, _⟩ => show 0 + 1 * l.val = l.val; omega

/-- The whole matrix read as a part is the matrix. -/
theorem part_W (f : Vec F S1024x1024 .bf16) (r l : Fin 1024) : part rW f (ix2 r l) = f (ix2 r l) := by
  refine congrArg f (funext fun a => Fin.ext ?_)
  match a with
  | ⟨0, _⟩ => show 0 + 1 * r.val = r.val; omega
  | ⟨1, _⟩ => show 0 + 1 * l.val = l.val; omega

/-- Key `x` of block `b` is key `256 b + x`. -/
theorem part_D (b h : ℕ) (hb : b < 8) (hh : h < 8) (f : Vec F S8x2048x128 .bf16) (x : Fin 256) (d : Fin 128) :
    part (rD b h hb hh) f (ix3 0 x d) = f (ix3 ⟨h, hh⟩ ⟨256 * b + x.val, by omega⟩ d) := by
  refine congrArg f (funext fun a => Fin.ext ?_)
  match a with
  | ⟨0, _⟩ => show h + 1 * 0 = h; omega
  | ⟨1, _⟩ => show 256 * b + 1 * x.val = 256 * b + x.val; omega
  | ⟨2, _⟩ => show 0 + 1 * d.val = d.val; omega

/-- Key `x` of those before block `b` is key `x`. -/
theorem part_M (b h : ℕ) (hb : b < 8) (hh : h < 8) (f : Vec F S8x2048x128 .bf16) (x : Fin (256 * b)) (d : Fin 128) :
    part (rM b h hb hh) f (ix3 0 x d) = f (ix3 ⟨h, hh⟩ ⟨x.val, by omega⟩ d) := by
  refine congrArg f (funext fun a => Fin.ext ?_)
  match a with
  | ⟨0, _⟩ => show h + 1 * 0 = h; omega
  | ⟨1, _⟩ => show 0 + 1 * x.val = x.val; omega
  | ⟨2, _⟩ => show 0 + 1 * d.val = d.val; omega

end Parts

/-! ## A head's result -/

variable (fX : FVec Ideal S2048x1024 .bf16) (fQ : FVec Ideal S1024x1024 .bf16) (fK fV : FVec Ideal S8x2048x128 .bf16) (fO : FVec Ideal S1024x1024 .bf16)

/-- The score of a query `q` against key `j` of head `h`. -/
def keyScore (h : Fin 8) (q : Fin 128 → EReal) (j : Fin 2048) : EReal := Attention.score q (fun d => fK (ix3 h j d))

/-- A head's result: the sums over the block's own keys and over the keys before the block, one quotient. -/
theorem headOf_at (b h : ℕ) (hb : b < 8) (hh : h < 8) (q : FVec Ideal S256x128 .bf16) (r : Fin 256) (d : Fin 128) :
    headOf (F := Ideal) fK fV b h hb hh q (ix2 r d) = Ideal.div
      ((∑ x : Fin 256, (if x.val / 64 ≤ r.val / 64 then Ideal.exp (keyScore fK ⟨h, hh⟩ (fun d => q (ix2 r d)) ⟨256 * b + x.val, by omega⟩) else 0)
          * fV (ix3 ⟨h, hh⟩ ⟨256 * b + x.val, by omega⟩ d))
        + ∑ x : Fin (256 * b), Ideal.exp (keyScore fK ⟨h, hh⟩ (fun d => q (ix2 r d)) ⟨x.val, by omega⟩) * fV (ix3 ⟨h, hh⟩ ⟨x.val, by omega⟩ d))
      ((∑ x : Fin 256, if x.val / 64 ≤ r.val / 64 then Ideal.exp (keyScore fK ⟨h, hh⟩ (fun d => q (ix2 r d)) ⟨256 * b + x.val, by omega⟩) else 0)
        + ∑ x : Fin (256 * b), Ideal.exp (keyScore fK ⟨h, hh⟩ (fun d => q (ix2 r d)) ⟨x.val, by omega⟩)) := by
  unfold headOf
  split
  · unfold headLater
    rw [quot_at]
    show Ideal.div (weigh (F := Ideal) 256 _ _ (ix2 r d) + weigh (F := Ideal) (256 * b) _ _ (ix2 r d)) (rowSum (F := Ideal) 256 _ (ix2 r 0) + rowSum (F := Ideal) (256 * b) _ (ix2 r 0)) = _
    simp only [weigh_at, rowSum_at, diagScores_at, expScores_at, part_D, part_M]
    rfl
  · have h0 : b = 0 := by omega
    subst h0
    unfold headFirst
    rw [quot_at]
    simp only [weigh_at, rowSum_at, diagScores_at, part_D]
    have e : ∀ f : Fin (256 * 0) → EReal, ∑ x, f x = 0 := fun f => Finset.sum_empty
    rw [e, e, add_zero, add_zero]
    rfl

/-- A lane of a block's queries. -/
theorem qB_at (b : ℕ) (hb : b < 8) (r : Fin 256) (n : Fin 1024) :
    qB (F := Ideal) fX fQ b hb (ix2 r n) = Attention.query (fun l => fX (ix2 ⟨256 * b + r.val, by omega⟩ l)) (fun l => fQ (ix2 l n)) := by
  unfold qB
  rw [payQ_at]
  simp only [part_X, part_W]
  rfl

/-- A lane of a head's queries. -/
theorem qH_at (b h : ℕ) (hb : b < 8) (hh : h < 8) (r : Fin 256) (d : Fin 128) :
    qH (F := Ideal) fX fQ b h hb hh (ix2 r d)
      = Attention.query (fun l => fX (ix2 ⟨256 * b + r.val, by omega⟩ l)) (fun l => fQ (ix2 l ⟨128 * h + d.val, by omega⟩)) := by
  refine Eq.trans (congrArg (qB (F := Ideal) fX fQ b hb) ?_) (qB_at fX fQ b hb r ⟨128 * h + d.val, by omega⟩)
  exact (ix2_eq_valueIdx r (⟨128 * h + d.val, by omega⟩ : Fin 1024)).symm

/-- The result at a row of block `b`. -/
theorem rAll_at (b : ℕ) (hb : b < 8) (r : Fin 256) (n : Fin 1024) :
    rAll (F := Ideal) fX fQ fK fV fO (ix3 0 ⟨256 * b + r.val, by omega⟩ n)
      = ∑ l : Fin 1024, cH (F := Ideal) fX fQ fK fV b (l.val / 128) hb (by omega) (ix2 r ⟨l.val % 128, Nat.mod_lt _ (by decide)⟩) * fO (ix2 l n) := by
  have e1 : (256 * b + r.val) / 256 = b := by omega
  have e2 : (256 * b + r.val) % 256 = r.val := by omega
  have e : rAll (F := Ideal) fX fQ fK fV fO (ix3 0 ⟨256 * b + r.val, by omega⟩ n) = oB (F := Ideal) fX fQ fK fV fO b hb (ix3 0 r n) := by
    show oB (F := Ideal) fX fQ fK fV fO ((256 * b + r.val) / 256) _ (ValueIdx.ix3 0 ⟨(256 * b + r.val) % 256, _⟩ n) = _
    simp only [e1, e2, ix3_eq_valueIdx]
  rw [e]
  unfold oB
  rw [payO_at, proj_at]
  simp only [part_W]
  refine Finset.sum_congr rfl fun l _ => congrArg (· * _) ?_
  show cH (F := Ideal) fX fQ fK fV b (l.val / 128) hb _ (ValueIdx.ix2 r ⟨l.val % 128, _⟩) = _
  rw [← ix2_eq_valueIdx]

end Cert.KernelIdeal.Blocks
-- ==== Proof.RefStages.lean ====
/- The reference's result as a few stages, each a function of the stages before it. -/
module

public import proofs.«01_k».proof.Proof.Gen.ReferenceIdeal.Run
public import Idealize.ShloMosaic.Lib.Routing.Words

@[expose] public section

set_option maxRecDepth 16384

noncomputable section

namespace Cert.ReferenceIdeal.Value

open Cert.ReferenceIdeal Cert.ReferenceIdeal.Gen Idealize.ShloMosaic Idealize.ShloMosaic.TcCoe

variable {F : FTy → Type} [FloatOps F]

/-- The group size, as the divisions name it. -/
def groupSize : IVec S_ 32 := id (constantI S_ 32 64#32)
/-- Each key's group. -/
def keyGroups : IVec S8192 32 := Routing.pyDiv bcast_S_S8192 (iotaInDim S8192 32 0) groupSize
/-- Each query's group. -/
def queryGroups : IVec S2048 32 := Routing.pyDiv bcast_S_S2048 (iotaInDim S2048 32 0) groupSize
/-- Which keys a query sees. -/
def sees : IVec S2048x8192 1 :=
  cmpi .sle (broadcastInDim S2048x8192 ![0, 1] bcast_S1x8192_S2048x8192_0_1 (broadcastInDim S1x8192 ![1] bcast_S8192_S1x8192_1 keyGroups))
    (broadcastInDim S2048x8192 ![0, 1] bcast_S2048x1_S2048x8192_0_1 (broadcastInDim S2048x1 ![0] bcast_S2048_S2048x1_0 queryGroups))
/-- Whether a query sees a key at all. -/
def keeps (p : IVec S2048x8192 1) : IVec S2048 1 := Host.reduce IntOp.ori p (constantI S_ 1 0#1) reducesTo_S2048x8192_S2048_d1 h_S_
/-- The queries, head by head. -/
def queries (x : FVec F S1x2048x1024 .bf16) (wq : FVec F S1024x1024 .bf16) : FVec F S1x2048x8x128 .bf16 :=
  shapeCast _ (truncf .bf16 (Host.dotGeneral dot_S1x2048x1024_S1024x1024_S1x2048x1024_2_0_01_1_n_n none x wq) bitsLt_bf16_f32) shapeCasts_S1x2048x1024_S1x2048x8x128
/-- The scaled scores. -/
def scores (q : FVec F S1x2048x8x128 .bf16) (k : FVec F S1x8192x8x128 .bf16) : FVec F S1x8x2048x8192 .f32 :=
  mulf (extf .f32 (truncf .bf16 (Host.dotGeneral dot_S1x2048x8x128_S1x8192x8x128_S1x8x2048x8192_3_3_1_1_02_02 none q k) bitsLt_bf16_f32) bitsLt_bf16_f32)
    (broadcastInDim S1x8x2048x8192 ![] bcast_S_S1x8x2048x8192 (constant S_ .f32 0x3DB504F3#32))
/-- The scores of the keys seen, minus infinity elsewhere. -/
def masked (p : IVec S2048x8192 1) (s : FVec F S1x8x2048x8192 .f32) : FVec F S1x8x2048x8192 .f32 :=
  select (broadcastInDim S1x8x2048x8192 ![0, 1, 2, 3] bcast_S1x1x2048x8192_S1x8x2048x8192_0_1_2_3 (broadcastInDim S1x1x2048x8192 ![2, 3] bcast_S2048x8192_S1x1x2048x8192_2_3 p))
    s (broadcastInDim S1x8x2048x8192 ![] bcast_S_S1x8x2048x8192 (id (constant S_ .f32 0xFF800000#32)))
/-- Each row's largest score. -/
def rowMax (s : FVec F S1x8x2048x8192 .f32) : FVec F S1x8x2048 .f32 :=
  Host.reduce FloatOps.maximumf s (constant S_ .f32 0xFF800000#32) reducesTo_S1x8x2048x8192_S1x8x2048_d3 h_S_
/-- A value per row, along the row. -/
def along (t : FVec F S1x8x2048x1 .f32) : FVec F S1x8x2048x8192 .f32 :=
  broadcastInDim S1x8x2048x8192 ![0, 1, 2, 3] bcast_S1x8x2048x1_S1x8x2048x8192_0_1_2_3 t
/-- The exponentials of the scores less the row's largest. -/
def exps (s : FVec F S1x8x2048x8192 .f32) : FVec F S1x8x2048x8192 .f32 :=
  Host.exp (subf s (along (broadcastInDim S1x8x2048x1 ![0, 1, 2] bcast_S1x8x2048_S1x8x2048x1_0_1_2 (rowMax s))))
/-- Each row's sum, one where the row sees no key. -/
def rowSums (keep : IVec S2048 1) (w : FVec F S1x8x2048x8192 .f32) : FVec F S1x8x2048x1 .f32 :=
  select (broadcastInDim S1x8x2048x1 ![0, 1, 2, 3] bcast_S1x1x2048x1_S1x8x2048x1_0_1_2_3 (broadcastInDim S1x1x2048x1 ![2] bcast_S2048_S1x1x2048x1_2 keep))
    (broadcastInDim S1x8x2048x1 ![0, 1, 2] bcast_S1x8x2048_S1x8x2048x1_0_1_2 (Host.reduceAdd w (constant S_ .f32 0x00000000#32) reducesTo_S1x8x2048x8192_S1x8x2048_d3 h_S_))
    (broadcastInDim S1x8x2048x1 ![] bcast_S_S1x8x2048x1 (id (constant S_ .f32 0x3F800000#32)))
/-- The normalised weights, zero in a row that sees no key. -/
def weights (keep : IVec S2048 1) (w : FVec F S1x8x2048x8192 .f32) : FVec F S1x8x2048x8192 .f32 :=
  select (broadcastInDim S1x8x2048x8192 ![0, 1, 2, 3] bcast_S1x1x2048x1_S1x8x2048x8192_0_1_2_3 (broadcastInDim S1x1x2048x1 ![2] bcast_S2048_S1x1x2048x1_2 keep))
    (Host.divf w (along (rowSums keep w))) (broadcastInDim S1x8x2048x8192 ![] bcast_S_S1x8x2048x8192 (id (constant S_ .f32 0x00000000#32)))
/-- The values weighted, head by head. -/
def context (v : FVec F S1x8192x8x128 .bf16) (w : FVec F S1x8x2048x8192 .f32) : FVec F S1x8x128x2048 .f32 :=
  Host.dotGeneral dot_S1x8192x8x128_S1x8x2048x8192_S1x8x128x2048_1_3_3_2_02_01 none (extf .f32 v bitsLt_bf16_f32) w
/-- The heads side by side, times the output weights. -/
def output (c : FVec F S1x8x128x2048 .f32) (wo : FVec F S1024x1024 .bf16) : FVec F S1x2048x1024 .bf16 :=
  truncf .bf16 (Host.dotGeneral dot_S1x2048x1024_S1024x1024_S1x2048x1024_2_0_01_1_n_n none
    (shapeCast _ (transpose S1x2048x8x128 [0, 3, 1, 2] c transposes_S1x8x128x2048_S1x2048x8x128_0_3_1_2) shapeCasts_S1x2048x8x128_S1x2048x1024)
    (extf .f32 wo bitsLt_bf16_f32)) bitsLt_bf16_f32
/-- The whole, of the five arguments. -/
def whole (x : FVec F S1x2048x1024 .bf16) (wq : FVec F S1024x1024 .bf16) (k v : FVec F S1x8192x8x128 .bf16) (wo : FVec F S1024x1024 .bf16) : FVec F S1x2048x1024 .bf16 :=
  output (context v (weights (keeps sees) (exps (masked sees (scores (queries x wq) k))))) wo

/-- The reference's result is the composition of the stages. -/
theorem res_eq_whole (m : (ℓ : Loc nD τ sig) → Buf (Elt F) ℓ) (c : Dev nD) :
    res_out0 m c = whole (m (c.tc.loc main_arg0)) (m (c.tc.loc main_arg1)) (m (c.tc.loc main_arg2)) (m (c.tc.loc main_arg3)) (m (c.tc.loc main_arg4)) := by
  with_unfolding_all rfl

end Cert.ReferenceIdeal.Value
-- ==== Proof.RefValue.lean ====
/- The reference's stages over the extended reals, read at an index. -/
module

public import proofs.«01_k».proof.Proof.RefStages
public import proofs.«01_k».proof.Proof.Softmax
public import Idealize.ShloMosaic.Lib.Pointwise
public import Idealize.ShloMosaic.Lib.WordCmp
public import Idealize.ShloMosaic.Lib.Routing.OpsOrder

@[expose] public section

set_option maxRecDepth 16384

noncomputable section

namespace Cert.ReferenceIdeal.Value

open Cert.ReferenceIdeal Cert.ReferenceIdeal.Gen Idealize.ShloMosaic Idealize.ShloMosaic.TcCoe

/-- Key `j` is in group `j / 64`. -/
theorem key_at (j : Fin 8192) : keyGroups (ix1 j) = BitVec.ofNat 32 (j.val / 64) :=
  Routing.pyDiv_ap bcast_S_S8192 _ groupSize (ix1 j) rfl rfl (by omega) (by decide) (by decide)

/-- Query `i` is in group `i / 64`. -/
theorem query_at (i : Fin 2048) : queryGroups (ix1 i) = BitVec.ofNat 32 (i.val / 64) :=
  Routing.pyDiv_ap bcast_S_S2048 _ groupSize (ix1 i) rfl rfl (by omega) (by decide) (by decide)

/-- A query sees the keys whose group is not after its own. -/
theorem sees_at (i : Fin 2048) (j : Fin 8192) : sees (ix2 i j) = 1#1 ↔ j.val / 64 ≤ i.val / 64 := by
  have e : sees (ix2 i j) = IntOp.cmpi .sle (keyGroups (ix1 j)) (queryGroups (ix1 i)) := by
    pointwise [sees]
  rw [e, key_at, query_at]
  exact WordCmp.cmpi_sle_ofNat_eq_one_iff (by show _ < 2 ^ 31; omega) (by show _ < 2 ^ 31; omega)

/-- Every query sees a key: the first. -/
theorem keeps_at (i : Fin 2048) : keeps sees (ix1 i) = 1#1 := by
  have e : keeps sees (ix1 i) = Finset.univ.fold IntOp.ori (0#1) fun j : Fin 8192 => sees (ix2 i j) := by
    pointwise [keeps]
  rw [e, Routing.fold_ori]
  exact ⟨0, Finset.mem_univ _, (sees_at i 0).2 (by show 0 / 64 ≤ _; omega)⟩

/-- The pattern of minus infinity. -/
theorem ofBits_neg_inf : Ideal.ofBits .f32 0xFF800000#32 = ⊥ := by simp [Ideal.ofBits, Ideal.ieee]

variable (x : FVec Ideal S1x2048x1024 .bf16) (wq wo : FVec Ideal S1024x1024 .bf16) (k v : FVec Ideal S1x8192x8x128 .bf16)

/-- A lane of a query: a row of the input times a column of the weights. -/
theorem queries_at (i : Fin 2048) (h : Fin 8) (d : Fin 128) :
    queries x wq (ix4 0 i h d) = ∑ l : Fin 1024, x (ix3 0 i l) * wq (ix2 l ⟨128 * h.val + d.val, by omega⟩) := by
  pointwise [queries]
  simp only [mul_comm 128]

/-- A scaled score. -/
theorem scores_at (q : FVec Ideal S1x2048x8x128 .bf16) (h : Fin 8) (i : Fin 2048) (j : Fin 8192) :
    scores q k (ix4 0 h i j) = (∑ d : Fin 128, q (ix4 0 i h d) * k (ix4 0 j h d)) * Ideal.ofBits .f32 0x3DB504F3#32 := by
  pointwise [scores]

/-- A score, minus infinity where the key is not seen. -/
theorem masked_at (p : IVec S2048x8192 1) (s : FVec Ideal S1x8x2048x8192 .f32) (h : Fin 8) (i : Fin 2048) (j : Fin 8192) :
    masked p s (ix4 0 h i j) = if p (ix2 i j) = 1#1 then s (ix4 0 h i j) else ⊥ := by
  pointwise [masked]
  show (if p (ix2 i j) = 1#1 then s (ix4 0 h i j) else Ideal.ofBits .f32 0xFF800000#32) = _
  rw [ofBits_neg_inf]

/-- The exponential of a score less its row's largest. -/
theorem exps_at (s : FVec Ideal S1x8x2048x8192 .f32) (h : Fin 8) (i : Fin 2048) (j : Fin 8192) :
    exps s (ix4 0 h i j) = Ideal.exp (s (ix4 0 h i j) - Finset.univ.fold max ⊥ fun j' : Fin 8192 => s (ix4 0 h i j')) := by
  pointwise [exps, along, rowMax]
  rw [ofBits_neg_inf]

/-- A weight over its row's sum. -/
theorem weights_at (keep : IVec S2048 1) (w : FVec Ideal S1x8x2048x8192 .f32) (h : Fin 8) (i : Fin 2048) (j : Fin 8192) (hk : keep (ix1 i) = 1#1) :
    weights keep w (ix4 0 h i j) = Ideal.div (w (ix4 0 h i j)) (∑ j' : Fin 8192, w (ix4 0 h i j')) := by
  pointwise [weights, along, rowSums]
  rw [hk]
  rfl

/-- The values weighted, a sum over the keys. -/
theorem context_at (w : FVec Ideal S1x8x2048x8192 .f32) (h : Fin 8) (i : Fin 2048) (d : Fin 128) :
    context v w (ix4 0 h d i) = ∑ j : Fin 8192, v (ix4 0 j h d) * w (ix4 0 h i j) := by
  pointwise [context]

/-- The heads' results times the output weights. -/
theorem output_at (c : FVec Ideal S1x8x128x2048 .f32) (i : Fin 2048) (n : Fin 1024) :
    output c wo (ix3 0 i n) = ∑ l : Fin 1024, c (ix4 0 ⟨l.val / 128, by omega⟩ ⟨l.val % 128, Nat.mod_lt _ (by decide)⟩ i) * wo (ix2 l n) := by
  pointwise [output]

/-- The score of query `i` against key `j` in head `h`. -/
def scoreOf (h : Fin 8) (i : Fin 2048) (j : Fin 8192) : EReal :=
  Attention.score (fun d : Fin 128 => Attention.query (fun l => x (ix3 0 i l)) (fun l => wq (ix2 l ⟨128 * h.val + d.val, by omega⟩))) (fun d => k (ix4 0 j h d))

/-- The reference's result at a row and a column: the heads' softmax rows times the output weights. -/
theorem whole_at (i : Fin 2048) (n : Fin 1024) :
    whole x wq k v wo (ix3 0 i n) = ∑ l : Fin 1024,
      (∑ j : Fin 8192, v (ix4 0 j ⟨l.val / 128, by omega⟩ ⟨l.val % 128, Nat.mod_lt _ (by decide)⟩)
        * Ideal.div (Ideal.exp (Attention.seen (fun j => sees (ix2 i j) = 1#1) (scoreOf x wq k ⟨l.val / 128, by omega⟩ i) j
              - Attention.top (fun j => sees (ix2 i j) = 1#1) (scoreOf x wq k ⟨l.val / 128, by omega⟩ i)))
            (∑ j', Ideal.exp (Attention.seen (fun j => sees (ix2 i j) = 1#1) (scoreOf x wq k ⟨l.val / 128, by omega⟩ i) j'
              - Attention.top (fun j => sees (ix2 i j) = 1#1) (scoreOf x wq k ⟨l.val / 128, by omega⟩ i)))) * wo (ix2 l n) := by
  unfold whole
  rw [output_at]
  refine Finset.sum_congr rfl fun l _ => congrArg (· * _) ?_
  rw [context_at]
  refine Finset.sum_congr rfl fun j _ => congrArg (_ * ·) ?_
  rw [weights_at _ _ _ _ _ (keeps_at i)]
  simp only [exps_at, masked_at, scores_at, queries_at]
  rfl

end Cert.ReferenceIdeal.Value
-- ==== Proof.Inputs.lean ====
/- The kernel's operands, as the host operations before it make them of the arguments. -/
module

public import proofs.«01_k».proof.Proof.Region
public import Idealize.ShloMosaic.Lib.Pointwise

@[expose] public section

set_option maxRecDepth 16384

noncomputable section

namespace Cert.KernelIdeal.Blocks

open Idealize.ShloMosaic Idealize.ShloMosaic.TcCoe
open Cert.KernelIdeal Cert.KernelIdeal.Gen

variable {F : FTy → Type} [FloatOps F]
variable (m : (ℓ : Loc nD τ sig) → Buf (Elt F) ℓ)

/-- The rows: the first argument without its unit axis. -/
theorem inX_eq (c : Dev nD) : inX m c = shapeCast S2048x1024 (m (c.tc.loc main_arg0) : Vec F S1x2048x1024 .bf16) shapeCasts_S1x2048x1024_S2048x1024 := by
  unfold inX V₁
  simp only [hostOps0]
  after_results_simp <;> rfl

/-- The query weights are the second argument. -/
theorem inQ_eq (c : Dev nD) : inQ m c = m (c.tc.loc main_arg1) := by
  unfold inQ V₁
  simp only [hostOps0]
  after_results_simp <;> rfl

/-- The output weights are the fifth argument. -/
theorem inO_eq (c : Dev nD) : inO m c = m (c.tc.loc main_arg4) := by
  unfold inO V₁
  simp only [hostOps0]
  after_results_simp <;> rfl

/-- Keys or values with the heads first. -/
def headsFirst (k : Vec F S1x2048x8x128 .bf16) : Vec F S8x2048x128 .bf16 :=
  transpose S8x2048x128 [1, 0, 2] (shapeCast S2048x8x128 k shapeCasts_S1x2048x8x128_S2048x8x128 : Vec F S2048x8x128 .bf16) transposes_S2048x8x128_S8x2048x128_1_0_2

/-- The keys are the third argument, the heads first. -/
theorem inK_eq (c : Dev nD) : inK m c = headsFirst (m (c.tc.loc main_arg2)) := by
  unfold inK V₁
  simp only [hostOps0]
  after_results_simp <;> rfl

/-- The values are the fourth argument, the heads first. -/
theorem inV_eq (c : Dev nD) : inV m c = headsFirst (m (c.tc.loc main_arg3)) := by
  unfold inV V₁
  simp only [hostOps0]
  after_results_simp <;> rfl

/-- An element of the keys or values with the heads first. -/
theorem headsFirst_at (k : Vec F S1x2048x8x128 .bf16) (h : Fin 8) (j : Fin 2048) (d : Fin 128) :
    headsFirst k (ix3 h j d) = k (ix4 0 j h d) := by
  pointwise [headsFirst]

/-- An element of the rows without their unit axis. -/
theorem rows_at (x : Vec F S1x2048x1024 .bf16) (i : Fin 2048) (l : Fin 1024) :
    shapeCast S2048x1024 x shapeCasts_S1x2048x1024_S2048x1024 (ix2 i l) = x (ix3 0 i l) := by
  pointwise

/-- An element of the kernel's rows, in the argument. -/
theorem inX_at (c : Dev nD) (i : Fin 2048) (l : Fin 1024) : inX m c (ix2 i l) = (m (c.tc.loc main_arg0) : Vec F S1x2048x1024 .bf16) (ix3 0 i l) :=
  (congrFun (inX_eq m c) _).trans (rows_at _ i l)

/-- An element of the kernel's keys, in the argument. -/
theorem inK_at (c : Dev nD) (h : Fin 8) (j : Fin 2048) (d : Fin 128) :
    inK m c (ix3 h j d) = (m (c.tc.loc main_arg2) : Vec F S1x2048x8x128 .bf16) (ix4 0 j h d) :=
  (congrFun (inK_eq m c) _).trans (headsFirst_at _ h j d)

/-- An element of the kernel's values, in the argument. -/
theorem inV_at (c : Dev nD) (h : Fin 8) (j : Fin 2048) (d : Fin 128) :
    inV m c (ix3 h j d) = (m (c.tc.loc main_arg3) : Vec F S1x2048x8x128 .bf16) (ix4 0 j h d) :=
  (congrFun (inV_eq m c) _).trans (headsFirst_at _ h j d)

end Cert.KernelIdeal.Blocks
-- ==== Proof.Agree.lean ====
/- The kernel's result and the reference's are one over the extended reals, where the input, the query weights and the keys are finite. -/
module

public import proofs.«01_k».proof.Proof.KerValue
public import proofs.«01_k».proof.Proof.RefValue
public import proofs.«01_k».proof.Proof.Inputs
public import Idealize.ShloMosaic.Lib.LayoutAt
public import proofs.«01_k».proof.Pre_finite_inputs_KernelIdeal
public import proofs.«01_k».proof.Pre_finite_inputs_ReferenceIdeal

@[expose] public section

set_option maxRecDepth 16384

noncomputable section

namespace Cert.Agree

open Idealize.ShloMosaic
open Cert.KernelIdeal.Blocks
open Cert.ReferenceIdeal.Value

/-! ## Finite arguments -/

/-- An extended real whose absolute value lies below plus infinity is a real. -/
theorem real_of_abs {a : EReal} (h : FloatOps.cmpf (F := Ideal) (φ := .bf16) .olt (FloatOps.absf (F := Ideal) (φ := .bf16) a) (Ideal.ofBits .bf16 0x7F80#16) = 1#1) : ∃ r : ℝ, a = r := by
  have e : Ideal.ofBits .bf16 0x7F80#16 = ⊤ := by simp [Ideal.ofBits, Ideal.ieee]
  rw [e, Ideal.cmpf_def, Ideal.absf_def] at h
  have hlt : max a (-a) < ⊤ := by
    by_contra hn
    rw [show Ideal.cmp .olt (max a (-a)) ⊤ = BitVec.ofBool (decide (max a (-a) < ⊤)) from rfl, decide_eq_false hn] at h
    exact absurd h (by decide)
  have h1 := lt_of_le_of_lt (le_max_left _ _) hlt
  have h2 := lt_of_le_of_lt (le_max_right _ _) hlt
  refine ⟨a.toReal, (EReal.coe_toReal h1.ne fun hb => ?_).symm⟩
  rw [hb] at h2
  exact absurd h2 (by simp)

/-- The shapes of the precondition on one device's blocks. -/
theorem facts_block : Pre_finite_inputs_KernelIdeal.Facts := ⟨by decide, by decide, by decide⟩

/-- The shapes of the precondition on the whole arrays. -/
theorem facts_array : Pre_finite_inputs_ReferenceIdeal.Facts := ⟨by decide, by decide, by decide⟩

section Finite

variable [Pre_finite_inputs_KernelIdeal.Facts]
variable {x : FVec Ideal KernelIdeal.S1x2048x1024 .bf16} {wq wo : FVec Ideal KernelIdeal.S1024x1024 .bf16} {k v : FVec Ideal KernelIdeal.S1x2048x8x128 .bf16}

/-- Where the precondition holds, the input is real. -/
theorem finite_x (h : (Pre_finite_inputs_KernelIdeal.fn (F := Ideal) x wq k v wo).1 = fun _ => 1#1) (i) : ∃ r : ℝ, x i = r :=
  real_of_abs (congrFun h i)

/-- Where the precondition holds, the query weights are real. -/
theorem finite_wq (h : (Pre_finite_inputs_KernelIdeal.fn (F := Ideal) x wq k v wo).2.1 = fun _ => 1#1) (i) : ∃ r : ℝ, wq i = r :=
  real_of_abs (congrFun h i)

/-- Where the precondition holds, the device's keys are real. -/
theorem finite_k (h : (Pre_finite_inputs_KernelIdeal.fn (F := Ideal) x wq k v wo).2.2 = fun _ => 1#1) (i) : ∃ r : ℝ, k i = r :=
  real_of_abs (congrFun h i)

end Finite

/-! ## A block of the keys or of the values -/

/-- Row `j` of device `c`'s block is row `2048 c + j` of the whole array. -/
theorem block_at {α : Type} (c : Fin 4) (k : (⟨4, ![1, 8192, 8, 128]⟩ : Shape).Idx → α) (j : Fin 2048) (h : Fin 8) (d : Fin 128) :
    Layout.block ⟨4, ![1, 2048, 8, 128]⟩ ⟨4, ![1, 8192, 8, 128]⟩ 1 4 c k (by decide) (ix4 0 j h d) = k (ix4 0 ⟨c.val * 2048 + j.val, by omega⟩ h d) := by
  refine congrArg k (funext fun a => Fin.ext ?_)
  match a with
  | ⟨0, _⟩ => rfl
  | ⟨1, _⟩ => rfl
  | ⟨2, _⟩ => rfl
  | ⟨3, _⟩ => rfl

/-! ## The two results -/

variable (x : FVec Ideal ReferenceIdeal.S1x2048x1024 .bf16) (wq wo : FVec Ideal ReferenceIdeal.S1024x1024 .bf16)
  (k v : FVec Ideal ReferenceIdeal.S1x8192x8x128 .bf16)

/-- A row of the kernel's result is the reference's. -/
theorem result_row (fX : FVec Ideal KernelIdeal.S2048x1024 .bf16) (fK fV : FVec Ideal KernelIdeal.S8x2048x128 .bf16)
    (hX : ∀ i l, fX (ix2 i l) = x (ix3 0 i l))
    (hK : ∀ (h : Fin 8) (j : Fin 2048) (d : Fin 128), fK (ix3 h j d) = k (ix4 0 ⟨j.val, by omega⟩ h d))
    (hV : ∀ (h : Fin 8) (j : Fin 2048) (d : Fin 128), fV (ix3 h j d) = v (ix4 0 ⟨j.val, by omega⟩ h d))
    (rx : ∀ i l, ∃ r : ℝ, x (ix3 0 i l) = r) (rw' : ∀ l n, ∃ r : ℝ, wq (ix2 l n) = r)
    (rk : ∀ j h d, ∃ r : ℝ, k (ix4 0 j h d) = r)
    (b : ℕ) (hb : b < 8) (r : Fin 256) (n : Fin 1024) :
    rAll (F := Ideal) fX wq fK fV wo (ix3 0 ⟨256 * b + r.val, by omega⟩ n) = whole x wq k v wo (ix3 0 ⟨256 * b + r.val, by omega⟩ n) := by
  rw [rAll_at fX wq fK fV wo b hb r n, whole_at]
  refine Finset.sum_congr rfl fun l _ => congrArg (· * _) ?_
  rw [Attention.row_quotient hb r.isLt (scoreOf x wq k ⟨l.val / 128, by omega⟩ ⟨256 * b + r.val, by omega⟩)
    (fun j => v (ix4 0 j ⟨l.val / 128, by omega⟩ ⟨l.val % 128, Nat.mod_lt _ (by decide)⟩))
    (fun j => Attention.score_real (fun d => Attention.query_real (fun l => rx _ l) (fun l => rw' l _)) (fun d => rk _ _ _))
    _ (fun j => sees_at ⟨256 * b + r.val, by omega⟩ j)]
  unfold cH
  rw [headOf_at]
  simp only [keyScore, qH_at, hX, hK, hV]
  rfl

/-- The kernel's result is the reference's, row by row. -/
theorem result_eq (fX : FVec Ideal KernelIdeal.S2048x1024 .bf16) (fK fV : FVec Ideal KernelIdeal.S8x2048x128 .bf16)
    (hX : ∀ i l, fX (ix2 i l) = x (ix3 0 i l))
    (hK : ∀ (h : Fin 8) (j : Fin 2048) (d : Fin 128), fK (ix3 h j d) = k (ix4 0 ⟨j.val, by omega⟩ h d))
    (hV : ∀ (h : Fin 8) (j : Fin 2048) (d : Fin 128), fV (ix3 h j d) = v (ix4 0 ⟨j.val, by omega⟩ h d))
    (rx : ∀ i l, ∃ r : ℝ, x (ix3 0 i l) = r) (rw' : ∀ l n, ∃ r : ℝ, wq (ix2 l n) = r)
    (rk : ∀ j h d, ∃ r : ℝ, k (ix4 0 j h d) = r) :
    rAll (F := Ideal) fX wq fK fV wo = whole x wq k v wo := by
  funext j
  obtain ⟨o, i, n, rfl⟩ : ∃ (o : Fin 1) (i : Fin 2048) (n : Fin 1024), j = ix3 o i n := ⟨j 0, j 1, j 2, by
    funext a
    match a with
    | ⟨0, _⟩ => rfl
    | ⟨1, _⟩ => rfl
    | ⟨2, _⟩ => rfl⟩
  obtain rfl : o = 0 := Subsingleton.elim _ _
  have e : i = ⟨256 * (i.val / 256) + (⟨i.val % 256, Nat.mod_lt _ (by decide)⟩ : Fin 256).val, by show 256 * (i.val / 256) + i.val % 256 < 2048; omega⟩ :=
    Fin.ext (by show i.val = 256 * (i.val / 256) + i.val % 256; omega)
  rw [e]
  exact result_row x wq wo k v fX fK fV hX hK hV rx rw' rk _ (by omega) _ n

end Cert.Agree
-- ==== Proof.lean ====
/- The claims about the kernel, assembled. The run of the kernel is proved once, for any float values (Proof/Run.lean); the frames of the kernel as printed and
   of its idealization are that run at the two instances, and its result over the extended reals is the reference's (Proof/Agree.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Lib.Quiescent

@[expose] public section

noncomputable section

namespace Cert.Proof

open Idealize.ShloMosaic Idealize.SL.Sem

/-- The kernel as printed and its idealization have one text, so one table of bodies, -/
theorem defs_eq {F : FTy → Type} [FloatOps F] : Kernel.defs (F := F) = KernelIdeal.defs (F := F) := by chain_rfl
/-- and one main program. -/
theorem main_eq {F : FTy → Type} [FloatOps F] : Kernel.main (F := F) = KernelIdeal.main (F := F) := by chain_rfl

/-- The kernel as printed runs to the end, keeps its arguments and leaves every semaphore at zero. -/
theorem frame_kernel : Cert.quiescent_Kernel := by
  intro m g _
  rw [defs_eq, main_eq]
  exact (θ_run Cert.KernelIdeal.defs _ _).mono (fun _ h => And.intro (fun c => (h.1 c).2) h.2) (KernelIdeal.Blocks.run_main (F := Bits) m g)

/-- The same of the kernel over the extended reals. -/
theorem frame_ideal : Cert.quiescent_KernelIdeal := fun m g _ =>
  (θ_run Cert.KernelIdeal.defs _ _).mono (fun _ h => ⟨fun c => (h.1 c).2, h.2⟩) (KernelIdeal.Blocks.run_main (F := Ideal) m g)

/-- The reference runs to the end and keeps its arguments; it declares no semaphore. -/
theorem frame_reference : Cert.quiescent_ReferenceIdeal := fun m g _ =>
  (θ_run Cert.ReferenceIdeal.defs _ _).mono (fun r h => ⟨fun c => (h c).2, sem_eq_zero_of_no_sems rfl _⟩) (ReferenceIdeal.Value.run (F := Ideal) m g)

/-- The kernel's result, made of device 0's blocks of the keys and of the values, is the reference's result of the whole arrays. -/
theorem result_eq [Pre_finite_inputs_KernelIdeal.Facts]
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hp : Pre_KernelIdeal_finite_inputs_KernelIdeal m)
    (h0 : m (((0 : Dev KernelIdeal.nD).tc : Thread KernelIdeal.nD KernelIdeal.τ).loc KernelIdeal.main_arg0) = m' (((0 : Dev ReferenceIdeal.nD).tc : Thread ReferenceIdeal.nD ReferenceIdeal.τ).loc ReferenceIdeal.main_arg0))
    (h1 : m (((0 : Dev KernelIdeal.nD).tc : Thread KernelIdeal.nD KernelIdeal.τ).loc KernelIdeal.main_arg1) = m' (((0 : Dev ReferenceIdeal.nD).tc : Thread ReferenceIdeal.nD ReferenceIdeal.τ).loc ReferenceIdeal.main_arg1))
    (h2 : ∀ c : Dev KernelIdeal.nD, m ((c.tc : Thread KernelIdeal.nD KernelIdeal.τ).loc KernelIdeal.main_arg2) = Layout.block ⟨4, ![1, 2048, 8, 128]⟩ ⟨4, ![1, 8192, 8, 128]⟩ 1 4 c (m' (((0 : Dev ReferenceIdeal.nD).tc : Thread ReferenceIdeal.nD ReferenceIdeal.τ).loc ReferenceIdeal.main_arg2)))
    (h3 : m (((0 : Dev KernelIdeal.nD).tc : Thread KernelIdeal.nD KernelIdeal.τ).loc KernelIdeal.main_arg3) = Layout.block ⟨4, ![1, 2048, 8, 128]⟩ ⟨4, ![1, 8192, 8, 128]⟩ 1 4 (0 : Fin 4) (m' (((0 : Dev ReferenceIdeal.nD).tc : Thread ReferenceIdeal.nD ReferenceIdeal.τ).loc ReferenceIdeal.main_arg3)))
    (h4 : m (((0 : Dev KernelIdeal.nD).tc : Thread KernelIdeal.nD KernelIdeal.τ).loc KernelIdeal.main_arg4) = m' (((0 : Dev ReferenceIdeal.nD).tc : Thread ReferenceIdeal.nD ReferenceIdeal.τ).loc ReferenceIdeal.main_arg4)) :
    KernelIdeal.Blocks.resOf (F := Ideal) m = ReferenceIdeal.Value.res_out0 (F := Ideal) m' 0 := by
  rw [ReferenceIdeal.Value.res_eq_whole]
  unfold KernelIdeal.Blocks.resOf
  rw [KernelIdeal.Blocks.inQ_eq, KernelIdeal.Blocks.inO_eq, h1, h4]
  refine Agree.result_eq _ _ _ _ _ _ _ _ (fun i l => (KernelIdeal.Blocks.inX_at m 0 i l).trans (congrFun h0 _))
    (fun h j d => (KernelIdeal.Blocks.inK_at m 0 h j d).trans ((congrFun (h2 0) _).trans ((Agree.block_at 0 _ j h d).trans ?_)))
    (fun h j d => (KernelIdeal.Blocks.inV_at m 0 h j d).trans ((congrFun h3 _).trans ((Agree.block_at 0 _ j h d).trans ?_)))
    (fun i l => ?_) (fun l n => ?_) (fun j h d => ?_)
  · simp only [Fin.val_zero, zero_mul, zero_add]
  · simp only [Fin.val_zero, zero_mul, zero_add]
  · rw [← h0]; exact Agree.finite_x (hp 0).1 _
  · rw [← h1]; exact Agree.finite_wq (hp 0).2.1 _
  · have hc : j.val / 2048 < 4 := by omega
    have e := (congrFun (h2 ⟨j.val / 2048, hc⟩) _).trans (Agree.block_at ⟨j.val / 2048, hc⟩ _ ⟨j.val % 2048, Nat.mod_lt _ (by decide)⟩ h d)
    obtain ⟨r, hr⟩ := Agree.finite_k (hp ⟨j.val / 2048, hc⟩).2.2 (ix4 0 ⟨j.val % 2048, Nat.mod_lt _ (by decide)⟩ h d)
    refine ⟨r, Eq.trans ?_ hr⟩
    refine Eq.trans ?_ e.symm
    congr 1
    congr 1
    exact Fin.ext (by show j.val = j.val / 2048 * 2048 + j.val % 2048; omega)

/-- The kernel's and the reference's result agree over the extended reals, where the input, the query weights and the keys are finite. -/
theorem algebraic [Pre_finite_inputs_KernelIdeal.Facts] : Cert.algebraic_KernelIdeal_ReferenceIdeal_pre_finite_inputs_KernelIdeal := by
  intro m g m' g' hp hm
  refine ⟨ReferenceIdeal.Value.res_out0 (F := Ideal) m' 0, ?_, ?_⟩
  · have e := result_eq m m' hp (hm 0).1 (hm 0).2.1 (fun c => (hm c).2.2.1) (hm 0).2.2.2.1 (hm 0).2.2.2.2
    exact (θ_run Cert.KernelIdeal.defs _ _).mono (fun _ h c => ⟨(h.1 c).1.trans e, (h.1 c).2⟩) (KernelIdeal.Blocks.run_main (F := Ideal) m g)
  · exact (θ_run Cert.ReferenceIdeal.defs _ _).mono (fun _ h => h 0) (ReferenceIdeal.Value.run (F := Ideal) m' g')

/-- All the claims. -/
theorem claim : Cert.Claim := ⟨Cert.Kernel.Gen.facts, Cert.KernelIdeal.Gen.facts, Cert.ReferenceIdeal.Gen.facts, Agree.facts_block, Agree.facts_array,
  frame_kernel, frame_ideal, fun m g _ => frame_ideal m g trivial, frame_reference, fun m g _ => frame_reference m g trivial, trivial,
  @algebraic Agree.facts_block⟩

end Cert.Proof

end
